-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨3, ![2, 256, 512]⟩ ⟨3, ![2, 512, 512]⟩ (Layout.meshBlock [2, 2, 2] ![[], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨3, ![2, 256, 512]⟩ ⟨3, ![2, 512, 512]⟩ (Layout.meshBlock [2, 2, 2] ![[], [1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 256, 512]⟩ ⟨3, ![2, 512, 512]⟩ (Layout.meshBlock [2, 2, 2] ![[], [1], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![2, 256, 512]⟩ ⟨3, ![2, 512, 512]⟩ (Layout.meshBlock [2, 2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) (main_arg1 : FVec F S2x256x512 .f32) (main_arg2 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S2x256x512 .f32 := Host.absf main_arg1
  let main_cst_0 : FVec F S_ .f32 := constant S_ .f32 0x7F800000#32
  let main_v5 : FVec F S2x256x512 .f32 := broadcastInDim S2x256x512 ![] bcast_S_S2x256x512 main_cst_0
  let main_v6 : IVec S2x256x512 1 := cmpf .olt main_v4 main_v5
  let main_c_1 : IVec S_ 1 := constantI S_ 1 1#1
  let main_v7 : IVec S_ 1 := (fun x v => Host.reduce IntOp.andi x v reducesTo_S2x256x512_S_d0_1_2 h_S_) main_v6 main_c_1
  let main_v8 : IVec S_ 1 := andi main_v3 main_v7
  main_v8
-- ==== Pre_finite_ReferenceIdeal.lean ====
abbrev S2x512x512 : Shape := ⟨3, ![2, 512, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel

variable [Facts]

def fn {F : FTy → Type} [FloatOps F] (main_arg0 : FVec F S2x512x512 .f32) (main_arg1 : FVec F S2x512x512 .f32) (main_arg2 : FVec F S2x512x512 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  main_v8
-- ==== Kernel.lean ====
abbrev S2x256x512 : Shape := ⟨3, ![2, 256, 512]⟩
abbrev S2x2x256x512 : Shape := ⟨4, ![2, 2, 256, 512]⟩
abbrev S2x256x8 : Shape := ⟨3, ![2, 256, 8]⟩
abbrev S8 : Shape := ⟨1, ![8]⟩
abbrev S3 : Shape := ⟨1, ![3]⟩
abbrev S2 : Shape := ⟨1, ![2]⟩
abbrev S1 : Shape := ⟨1, ![1]⟩
abbrev S_ : Shape := ⟨0, ![]⟩
abbrev S1x2x256x512 : Shape := ⟨4, ![1, 2, 256, 512]⟩
abbrev S1x1x64x512 : Shape := ⟨4, ![1, 1, 64, 512]⟩
abbrev S64x512 : Shape := ⟨2, ![64, 512]⟩
abbrev S256x1 : Shape := ⟨2, ![256, 1]⟩
abbrev S1x256x64 : Shape := ⟨3, ![1, 256, 64]⟩
abbrev S256x64 : Shape := ⟨2, ![256, 64]⟩
abbrev S1x1x256x64 : Shape := ⟨4, ![1, 1, 256, 64]⟩
abbrev S256x256 : Shape := ⟨2, ![256, 256]⟩
abbrev S1x256x1 : Shape := ⟨3, ![1, 256, 1]⟩
abbrev S1x256x512 : Shape := ⟨3, ![1, 256, 512]⟩
abbrev S256x512 : Shape := ⟨2, ![256, 512]⟩

abbrev nBuf : Space → Nat
  | .hbm => 4
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .local _ .vmem, ⟨0, _⟩ => ⟨S2x256x512, .f32⟩
  | .local _ .vmem, ⟨1, _⟩ => ⟨S2x256x512, .f32⟩
  | .local _ .vmem, ⟨2, _⟩ => ⟨S2x256x512, .f32⟩
  | .local _ .vmem, ⟨3, _⟩ => ⟨S2x256x512, .f32⟩
  | .local _ .vmem, ⟨4, _⟩ => ⟨S2x256x512, .bf16⟩
  | .local _ .vmem, ⟨5, _⟩ => ⟨S2x2x256x512, .bf16⟩
  | .local _ .vmem, ⟨6, _⟩ => ⟨S2x2x256x512, .bf16⟩
  | .local _ .vmem, ⟨7, _⟩ => ⟨S2x256x512, .f32⟩
  | .local _ .vmem, ⟨8, _⟩ => ⟨S2x256x8, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v18 : BitVec 32 := Scalar.muli v2 c4_i32_8
  let v19 : BitVec 32 := Scalar.addi c0_i32_9 v18
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_10 : BitVec 32 := 2#32
  let v20 : BitVec 32 := Scalar.muli v9 c2_i32_10
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v22 : BitVec 32 := Scalar.muli v8 c1_i32_11
  let v23 : BitVec 32 := Scalar.addi v21 v22
  v23.toNat
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v24 : BitVec 32 := Scalar.muli v2 c4_i32_13
  let v25 : BitVec 32 := Scalar.addi c0_i32_14 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v26 : BitVec 32 := Scalar.muli v5 c2_i32_15
  let v27 : BitVec 32 := Scalar.addi v25 v26
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_16 : BitVec 32 := 1#32
  let v28 : BitVec 32 := Scalar.muli v10 c1_i32_16
  let v29 : BitVec 32 := Scalar.addi v27 v28
  v29.toNat
def k0_cond1 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_33 : BitVec 32 := 0#32
  let v44 : BitVec 1 := Scalar.cmpi .eq v8 c0_i32_33
  let v45 : BitVec 32 := Scalar.extui v44
  let c0_i32_34 : BitVec 32 := 0#32
  let v46 : BitVec 1 := Scalar.cmpi .ne v45 c0_i32_34
  v46

def k0_dev3 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1180 : BitVec 32 := 2#32
  let v1046 : BitVec 32 := Scalar.muli v9 c2_i32_1180
  let v1047 : BitVec 32 := Scalar.addi v1045 v1046
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1181 : BitVec 32 := 1#32
  let v1048 : BitVec 32 := Scalar.muli v8 c1_i32_1181
  let v1049 : BitVec 32 := Scalar.addi v1047 v1048
  v1049.toNat
def k0_dev4 (d0 : Dev nD) : Nat :=
  let c0_i32_1193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1192 : BitVec 32 := 4#32
  let v1058 : BitVec 32 := Scalar.muli v2 c4_i32_1192
  let v1059 : BitVec 32 := Scalar.addi c0_i32_1193 v1058
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1194 : BitVec 32 := 2#32
  let v1060 : BitVec 32 := Scalar.muli v9 c2_i32_1194
  let v1061 : BitVec 32 := Scalar.addi v1059 v1060
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1195 : BitVec 32 := 1#32
  let v1062 : BitVec 32 := Scalar.muli v8 c1_i32_1195
  let v1063 : BitVec 32 := Scalar.addi v1061 v1062
  v1063.toNat
def k0_dev5 (d0 : Dev nD) : Nat :=
  let c0_i32_1207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1206 : BitVec 32 := 4#32
  let v1072 : BitVec 32 := Scalar.muli v2 c4_i32_1206
  let v1073 : BitVec 32 := Scalar.addi c0_i32_1207 v1072
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1208 : BitVec 32 := 2#32
  let v1074 : BitVec 32 := Scalar.muli v9 c2_i32_1208
  let v1075 : BitVec 32 := Scalar.addi v1073 v1074
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1209 : BitVec 32 := 1#32
  let v1076 : BitVec 32 := Scalar.muli v8 c1_i32_1209
  let v1077 : BitVec 32 := Scalar.addi v1075 v1076
  v1077.toNat
def k0_dev6 (d0 : Dev nD) : Nat :=
  let c0_i32_1221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1220 : BitVec 32 := 4#32
  let v1086 : BitVec 32 := Scalar.muli v2 c4_i32_1220
  let v1087 : BitVec 32 := Scalar.addi c0_i32_1221 v1086
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1222 : BitVec 32 := 2#32
  let v1088 : BitVec 32 := Scalar.muli v9 c2_i32_1222
  let v1089 : BitVec 32 := Scalar.addi v1087 v1088
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1223 : BitVec 32 := 1#32
  let v1090 : BitVec 32 := Scalar.muli v8 c1_i32_1223
  let v1091 : BitVec 32 := Scalar.addi v1089 v1090
  v1091.toNat
def k0_dev7 (d0 : Dev nD) : Nat :=
  let c0_i32_1235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1234 : BitVec 32 := 4#32
  let v1100 : BitVec 32 := Scalar.muli v2 c4_i32_1234
  let v1101 : BitVec 32 := Scalar.addi c0_i32_1235 v1100
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1236 : BitVec 32 := 2#32
  let v1102 : BitVec 32 := Scalar.muli v9 c2_i32_1236
  let v1103 : BitVec 32 := Scalar.addi v1101 v1102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1237 : BitVec 32 := 1#32
  let v1104 : BitVec 32 := Scalar.muli v8 c1_i32_1237
  let v1105 : BitVec 32 := Scalar.addi v1103 v1104
  v1105.toNat
def k0_dev8 (d0 : Dev nD) : Nat :=
  let c0_i32_1249 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1248 : BitVec 32 := 4#32
  let v1114 : BitVec 32 := Scalar.muli v2 c4_i32_1248
  let v1115 : BitVec 32 := Scalar.addi c0_i32_1249 v1114
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1250 : BitVec 32 := 2#32
  let v1116 : BitVec 32 := Scalar.muli v9 c2_i32_1250
  let v1117 : BitVec 32 := Scalar.addi v1115 v1116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1251 : BitVec 32 := 1#32
  let v1118 : BitVec 32 := Scalar.muli v8 c1_i32_1251
  let v1119 : BitVec 32 := Scalar.addi v1117 v1118
  v1119.toNat
def k0_dev9 (d0 : Dev nD) : Nat :=
  let c0_i32_1263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1262 : BitVec 32 := 4#32
  let v1128 : BitVec 32 := Scalar.muli v2 c4_i32_1262
  let v1129 : BitVec 32 := Scalar.addi c0_i32_1263 v1128
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1264 : BitVec 32 := 2#32
  let v1130 : BitVec 32 := Scalar.muli v9 c2_i32_1264
  let v1131 : BitVec 32 := Scalar.addi v1129 v1130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1265 : BitVec 32 := 1#32
  let v1132 : BitVec 32 := Scalar.muli v8 c1_i32_1265
  let v1133 : BitVec 32 := Scalar.addi v1131 v1132
  v1133.toNat
def k0_dev10 (d0 : Dev nD) : Nat :=
  let c0_i32_1277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1276 : BitVec 32 := 4#32
  let v1142 : BitVec 32 := Scalar.muli v2 c4_i32_1276
  let v1143 : BitVec 32 := Scalar.addi c0_i32_1277 v1142
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1278 : BitVec 32 := 2#32
  let v1144 : BitVec 32 := Scalar.muli v9 c2_i32_1278
  let v1145 : BitVec 32 := Scalar.addi v1143 v1144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1279 : BitVec 32 := 1#32
  let v1146 : BitVec 32 := Scalar.muli v8 c1_i32_1279
  let v1147 : BitVec 32 := Scalar.addi v1145 v1146
  v1147.toNat
def k0_cond2 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v47 : BitVec 1 := Scalar.cmpi .eq v8 c1_i32_35
  let v48 : BitVec 32 := Scalar.extui v47
  let c0_i32_36 : BitVec 32 := 0#32
  let v49 : BitVec 1 := Scalar.cmpi .ne v48 c0_i32_36
  v49

def k0_dev11 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1180 : BitVec 32 := 2#32
  let v1046 : BitVec 32 := Scalar.muli v9 c2_i32_1180
  let v1047 : BitVec 32 := Scalar.addi v1045 v1046
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1181 : BitVec 32 := 1#32
  let v1048 : BitVec 32 := Scalar.muli v8 c1_i32_1181
  let v1049 : BitVec 32 := Scalar.addi v1047 v1048
  v1049.toNat
def k0_dev12 (d0 : Dev nD) : Nat :=
  let c0_i32_1193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1192 : BitVec 32 := 4#32
  let v1058 : BitVec 32 := Scalar.muli v2 c4_i32_1192
  let v1059 : BitVec 32 := Scalar.addi c0_i32_1193 v1058
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1194 : BitVec 32 := 2#32
  let v1060 : BitVec 32 := Scalar.muli v9 c2_i32_1194
  let v1061 : BitVec 32 := Scalar.addi v1059 v1060
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1195 : BitVec 32 := 1#32
  let v1062 : BitVec 32 := Scalar.muli v8 c1_i32_1195
  let v1063 : BitVec 32 := Scalar.addi v1061 v1062
  v1063.toNat
def k0_dev13 (d0 : Dev nD) : Nat :=
  let c0_i32_1207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1206 : BitVec 32 := 4#32
  let v1072 : BitVec 32 := Scalar.muli v2 c4_i32_1206
  let v1073 : BitVec 32 := Scalar.addi c0_i32_1207 v1072
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1208 : BitVec 32 := 2#32
  let v1074 : BitVec 32 := Scalar.muli v9 c2_i32_1208
  let v1075 : BitVec 32 := Scalar.addi v1073 v1074
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1209 : BitVec 32 := 1#32
  let v1076 : BitVec 32 := Scalar.muli v8 c1_i32_1209
  let v1077 : BitVec 32 := Scalar.addi v1075 v1076
  v1077.toNat
def k0_dev14 (d0 : Dev nD) : Nat :=
  let c0_i32_1221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1220 : BitVec 32 := 4#32
  let v1086 : BitVec 32 := Scalar.muli v2 c4_i32_1220
  let v1087 : BitVec 32 := Scalar.addi c0_i32_1221 v1086
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1222 : BitVec 32 := 2#32
  let v1088 : BitVec 32 := Scalar.muli v9 c2_i32_1222
  let v1089 : BitVec 32 := Scalar.addi v1087 v1088
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1223 : BitVec 32 := 1#32
  let v1090 : BitVec 32 := Scalar.muli v8 c1_i32_1223
  let v1091 : BitVec 32 := Scalar.addi v1089 v1090
  v1091.toNat
def k0_dev15 (d0 : Dev nD) : Nat :=
  let c0_i32_1235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1234 : BitVec 32 := 4#32
  let v1100 : BitVec 32 := Scalar.muli v2 c4_i32_1234
  let v1101 : BitVec 32 := Scalar.addi c0_i32_1235 v1100
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1236 : BitVec 32 := 2#32
  let v1102 : BitVec 32 := Scalar.muli v9 c2_i32_1236
  let v1103 : BitVec 32 := Scalar.addi v1101 v1102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1237 : BitVec 32 := 1#32
  let v1104 : BitVec 32 := Scalar.muli v8 c1_i32_1237
  let v1105 : BitVec 32 := Scalar.addi v1103 v1104
  v1105.toNat
def k0_dev16 (d0 : Dev nD) : Nat :=
  let c0_i32_1249 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1248 : BitVec 32 := 4#32
  let v1114 : BitVec 32 := Scalar.muli v2 c4_i32_1248
  let v1115 : BitVec 32 := Scalar.addi c0_i32_1249 v1114
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1250 : BitVec 32 := 2#32
  let v1116 : BitVec 32 := Scalar.muli v9 c2_i32_1250
  let v1117 : BitVec 32 := Scalar.addi v1115 v1116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1251 : BitVec 32 := 1#32
  let v1118 : BitVec 32 := Scalar.muli v8 c1_i32_1251
  let v1119 : BitVec 32 := Scalar.addi v1117 v1118
  v1119.toNat
def k0_dev17 (d0 : Dev nD) : Nat :=
  let c0_i32_1263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1262 : BitVec 32 := 4#32
  let v1128 : BitVec 32 := Scalar.muli v2 c4_i32_1262
  let v1129 : BitVec 32 := Scalar.addi c0_i32_1263 v1128
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1264 : BitVec 32 := 2#32
  let v1130 : BitVec 32 := Scalar.muli v9 c2_i32_1264
  let v1131 : BitVec 32 := Scalar.addi v1129 v1130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1265 : BitVec 32 := 1#32
  let v1132 : BitVec 32 := Scalar.muli v8 c1_i32_1265
  let v1133 : BitVec 32 := Scalar.addi v1131 v1132
  v1133.toNat
def k0_dev18 (d0 : Dev nD) : Nat :=
  let c0_i32_1277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1276 : BitVec 32 := 4#32
  let v1142 : BitVec 32 := Scalar.muli v2 c4_i32_1276
  let v1143 : BitVec 32 := Scalar.addi c0_i32_1277 v1142
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1278 : BitVec 32 := 2#32
  let v1144 : BitVec 32 := Scalar.muli v9 c2_i32_1278
  let v1145 : BitVec 32 := Scalar.addi v1143 v1144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1279 : BitVec 32 := 1#32
  let v1146 : BitVec 32 := Scalar.muli v8 c1_i32_1279
  let v1147 : BitVec 32 := Scalar.addi v1145 v1146
  v1147.toNat
def k0_cond3 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_97 : BitVec 32 := 0#32
  let v106 : BitVec 1 := Scalar.cmpi .eq v8 c0_i32_97
  let v107 : BitVec 32 := Scalar.extui v106
  let c0_i32_98 : BitVec 32 := 0#32
  let v108 : BitVec 1 := Scalar.cmpi .ne v107 c0_i32_98
  v108

def k0_dev19 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond4 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v109 : BitVec 1 := Scalar.cmpi .eq v8 c1_i32_99
  let v110 : BitVec 32 := Scalar.extui v109
  let c0_i32_100 : BitVec 32 := 0#32
  let v111 : BitVec 1 := Scalar.cmpi .ne v110 c0_i32_100
  v111

def k0_dev20 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond5 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_150 : BitVec 32 := 0#32
  let v158 : BitVec 1 := Scalar.cmpi .eq v8 c0_i32_150
  let v159 : BitVec 32 := Scalar.extui v158
  let c0_i32_151 : BitVec 32 := 0#32
  let v160 : BitVec 1 := Scalar.cmpi .ne v159 c0_i32_151
  v160

def k0_dev21 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond6 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v161 : BitVec 1 := Scalar.cmpi .eq v8 c1_i32_152
  let v162 : BitVec 32 := Scalar.extui v161
  let c0_i32_153 : BitVec 32 := 0#32
  let v163 : BitVec 1 := Scalar.cmpi .ne v162 c0_i32_153
  v163

def k0_dev22 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond7 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_203 : BitVec 32 := 0#32
  let v210 : BitVec 1 := Scalar.cmpi .eq v8 c0_i32_203
  let v211 : BitVec 32 := Scalar.extui v210
  let c0_i32_204 : BitVec 32 := 0#32
  let v212 : BitVec 1 := Scalar.cmpi .ne v211 c0_i32_204
  v212

def k0_dev23 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond8 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v213 : BitVec 1 := Scalar.cmpi .eq v8 c1_i32_205
  let v214 : BitVec 32 := Scalar.extui v213
  let c0_i32_206 : BitVec 32 := 0#32
  let v215 : BitVec 1 := Scalar.cmpi .ne v214 c0_i32_206
  v215

def k0_dev24 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond9 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_255 : BitVec 32 := 0#32
  let v262 : BitVec 1 := Scalar.cmpi .eq v8 c0_i32_255
  let v263 : BitVec 32 := Scalar.extui v262
  let c0_i32_256 : BitVec 32 := 0#32
  let v264 : BitVec 1 := Scalar.cmpi .ne v263 c0_i32_256
  v264

def k0_dev25 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond10 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v265 : BitVec 1 := Scalar.cmpi .eq v8 c1_i32_257
  let v266 : BitVec 32 := Scalar.extui v265
  let c0_i32_258 : BitVec 32 := 0#32
  let v267 : BitVec 1 := Scalar.cmpi .ne v266 c0_i32_258
  v267

def k0_dev26 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond11 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_313 : BitVec 32 := 0#32
  let v314 : BitVec 1 := Scalar.cmpi .eq v8 c0_i32_313
  let v315 : BitVec 32 := Scalar.extui v314
  let c0_i32_314 : BitVec 32 := 0#32
  let v316 : BitVec 1 := Scalar.cmpi .ne v315 c0_i32_314
  v316

def k0_dev27 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond12 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v317 : BitVec 1 := Scalar.cmpi .eq v8 c1_i32_315
  let v318 : BitVec 32 := Scalar.extui v317
  let c0_i32_316 : BitVec 32 := 0#32
  let v319 : BitVec 1 := Scalar.cmpi .ne v318 c0_i32_316
  v319

def k0_dev28 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond13 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_370 : BitVec 32 := 0#32
  let v366 : BitVec 1 := Scalar.cmpi .eq v8 c0_i32_370
  let v367 : BitVec 32 := Scalar.extui v366
  let c0_i32_371 : BitVec 32 := 0#32
  let v368 : BitVec 1 := Scalar.cmpi .ne v367 c0_i32_371
  v368

def k0_dev29 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond14 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_372 : BitVec 32 := 1#32
  let v369 : BitVec 1 := Scalar.cmpi .eq v8 c1_i32_372
  let v370 : BitVec 32 := Scalar.extui v369
  let c0_i32_373 : BitVec 32 := 0#32
  let v371 : BitVec 1 := Scalar.cmpi .ne v370 c0_i32_373
  v371

def k0_dev30 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond15 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_427 : BitVec 32 := 0#32
  let v418 : BitVec 1 := Scalar.cmpi .eq v8 c0_i32_427
  let v419 : BitVec 32 := Scalar.extui v418
  let c0_i32_428 : BitVec 32 := 0#32
  let v420 : BitVec 1 := Scalar.cmpi .ne v419 c0_i32_428
  v420

def k0_dev31 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond16 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_429 : BitVec 32 := 1#32
  let v421 : BitVec 1 := Scalar.cmpi .eq v8 c1_i32_429
  let v422 : BitVec 32 := Scalar.extui v421
  let c0_i32_430 : BitVec 32 := 0#32
  let v423 : BitVec 1 := Scalar.cmpi .ne v422 c0_i32_430
  v423

def k0_dev32 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond17 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_484 : BitVec 32 := 0#32
  let v470 : BitVec 1 := Scalar.cmpi .eq v8 c0_i32_484
  let v471 : BitVec 32 := Scalar.extui v470
  let c0_i32_485 : BitVec 32 := 0#32
  let v472 : BitVec 1 := Scalar.cmpi .ne v471 c0_i32_485
  v472

def k0_dev33 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
def k0_cond18 (d0 : Dev nD) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_486 : BitVec 32 := 1#32
  let v473 : BitVec 1 := Scalar.cmpi .eq v8 c1_i32_486
  let v474 : BitVec 32 := Scalar.extui v473
  let c0_i32_487 : BitVec 32 := 0#32
  let v475 : BitVec 1 := Scalar.cmpi .ne v474 c0_i32_487
  v475

def k0_dev34 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1044 : BitVec 32 := Scalar.muli v2 c4_i32_1178
  let v1045 : BitVec 32 := Scalar.addi c0_i32_1179 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1046 : BitVec 32 := Scalar.muli v5 c2_i32_1180
  let v1047 : BitVec 32 := Scalar.addi v1045 v1046
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1181 : BitVec 32 := 1#32
  let v1048 : BitVec 32 := Scalar.muli v10 c1_i32_1181
  let v1049 : BitVec 32 := Scalar.addi v1047 v1048
  v1049.toNat
-- ==== ReferenceIdeal.lean ====
abbrev S2x512x512 : Shape := ⟨3, ![2, 512, 512]⟩
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512x512, .f32⟩
  | .hbm, ⟨3, _⟩ => ⟨S2x512x8x64, .f32⟩
  | .hbm, ⟨4, _⟩ => ⟨S2x512x8x64, .f32⟩
  | .hbm, ⟨5, _⟩ => ⟨S2x512x8x64, .f32⟩
  | .hbm, ⟨6, _⟩ => ⟨S2x8x512x512, .f32⟩
  | .hbm, ⟨7, _⟩ => ⟨S_, .f32⟩
  | .hbm, ⟨8, _⟩ => ⟨S2x8x512x512, .f32⟩
  | .hbm, ⟨9, _⟩ => ⟨S2x8x512x512, .f32⟩
  | .hbm, ⟨10, _⟩ => ⟨S_, .f32⟩
  | .hbm, ⟨11, _⟩ => ⟨S2x8x512, .f32⟩
  | .hbm, ⟨12, _⟩ => ⟨S2x8x512x1, .f32⟩
  | .hbm, ⟨13, _⟩ => ⟨S2x8x512x512, .f32⟩
  | .hbm, ⟨14, _⟩ => ⟨S2x8x512x512, .f32⟩
  | .hbm, ⟨15, _⟩ => ⟨S2x8x512x512, .f32⟩
  | .hbm, ⟨16, _⟩ => ⟨S_, .f32⟩
  | .hbm, ⟨17, _⟩ => ⟨S2x8x512, .f32⟩
  | .hbm, ⟨18, _⟩ => ⟨S2x8x512x1, .f32⟩
  | .hbm, ⟨19, _⟩ => ⟨S2x8x512x512, .f32⟩
  | .hbm, ⟨20, _⟩ => ⟨S2x8x512x512, .f32⟩
  | .hbm, ⟨21, _⟩ => ⟨S2x8x64x512, .f32⟩
  | .hbm, ⟨22, _⟩ => ⟨S2x512x8x64, .f32⟩
  | .hbm, ⟨23, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Clean.lean ====
/- The kernel's body as a program over chunk and head numbers: the printed statements, with the repeated
   stretches (one chunk's transfers, one head's arithmetic) written once. -/
module

public import proofs.«01_k».proof.Proof.Gen.KernelIdeal.Skeleton
public import proofs.«01_k».proof.Proof.Gen.KernelIdeal.Points

@[expose] public section

set_option synthInstance.maxSize 4096

noncomputable section

namespace Cert.KernelIdeal

open Idealize.ShloMosaic Idealize.ShloMosaic.TcCoe
open Idealize.SL Idealize.SL.Sem
open Cert.KernelIdeal.Gen

variable {F : FTy → Type} [FloatOps F]

/-- A program of the kernel's processor. -/
abbrev PG (F : FTy → Type) [FloatOps F] := Prog (TpuEff nD τ sig (Elt F) Λ₀ .tc) PUnit

/-! ## The buffers -/

abbrev hQ : Memref sig .tc .hbm S2x256x512 .f32 := Memref.whole main_arg0
abbrev hK : Memref sig .tc .hbm S2x256x512 .f32 := Memref.whole main_arg1
abbrev hV : Memref sig .tc .hbm S2x256x512 .f32 := Memref.whole main_arg2
abbrev hO : Memref sig .tc .hbm S2x256x512 .f32 := Memref.whole main_v1
abbrev sQ : Memref sig .tc .vmem S2x256x512 .f32 := Memref.whole cc0_scratch0
abbrev sK : Memref sig .tc .vmem S2x256x512 .f32 := Memref.whole cc0_scratch1
abbrev sV : Memref sig .tc .vmem S2x256x512 .f32 := Memref.whole cc0_scratch2
abbrev sO : Memref sig .tc .vmem S2x256x512 .f32 := Memref.whole cc0_scratch3
abbrev qb : Memref sig .tc .vmem S2x256x512 .bf16 := Memref.whole cc0_scratch4
abbrev kf : Memref sig .tc .vmem S2x2x256x512 .bf16 := Memref.whole cc0_scratch5
abbrev vf : Memref sig .tc .vmem S2x2x256x512 .bf16 := Memref.whole cc0_scratch6
abbrev oS : Memref sig .tc .vmem S2x256x512 .f32 := Memref.whole cc0_scratch7
abbrev lS : Memref sig .tc .vmem S2x256x8 .f32 := Memref.whole cc0_scratch8

/-- The reference of the two-slot buffer of the keys (`false`) or of the values (`true`). -/
@[reducible] def bufRef : Bool → Ref sig .tc
  | false => cc0_scratch5
  | true => cc0_scratch6

/-- The two-slot buffer of the keys (`false`) or of the values (`true`). -/
@[reducible] def buf : Bool → Memref sig .tc .vmem S2x2x256x512 .bf16
  | false => kf
  | true => vf

theorem buf_isWhole (b : Bool) : (buf b).IsWhole := by cases b <;> exact Memref.isWhole_whole _

/-! ## Rectangles -/

theorem inb_chunk (s : Fin 2) (ci : Fin 8) :
    ∀ a, (![s.val, ci.val / 4, 64 * (ci.val % 4), 0] : Fin 4 → Nat) a + S1x1x64x512.size a ≤ S2x2x256x512.size a := by
  revert s ci; decide

/-- Chunk `ci` of slot `s`: 64 rows of one batch entry. -/
abbrev rChunk (s : Fin 2) (ci : Fin 8) : Rect S2x2x256x512 :=
  Rect.unit (s := S2x2x256x512) ![s.val, ci.val / 4, 64 * (ci.val % 4), 0] S1x1x64x512.size (inb_chunk s ci)

theorem words_chunk (s : Fin 2) (ci : Fin 8) : (rChunk s ci).WholeWords (EltTy.packing .bf16) := by
  revert s ci; decide

/-- Chunk `ci` of slot `s` of a two-slot buffer, as the transfers name it. -/
abbrev mChunk (M : Memref sig .tc .vmem S2x2x256x512 .bf16) (s : Fin 2) (ci : Fin 8) :
    Memref sig .tc .vmem S64x512 .bf16 :=
  (M.slice (rChunk s ci) (fun _ => rfl)).squeeze S64x512 squeezes_S1x1x64x512_S64x512

theorem wx_chunk (b : Bool) (s : Fin 2) (ci : Fin 8) : (mChunk (buf b) s ci).view.WordExact :=
  ((buf_isWhole b).wordExact_slice rfl _ (words_chunk s ci)).reshape _ _

theorem inb_q (n : Fin 16) :
    ∀ a, (![n.val / 8, 0, 64 * (n.val % 8)] : Fin 3 → Nat) a + S1x256x64.size a ≤ S2x256x512.size a := by
  revert n; decide

theorem inb_kv (s : Fin 2) (n : Fin 16) :
    ∀ a, (![s.val, n.val / 8, 0, 64 * (n.val % 8)] : Fin 4 → Nat) a + S1x1x256x64.size a ≤ S2x2x256x512.size a := by
  revert s n; decide

theorem inb_l (n : Fin 16) :
    ∀ a, (![n.val / 8, 0, n.val % 8] : Fin 3 → Nat) a + S1x256x1.size a ≤ S2x256x8.size a := by
  revert n; decide

/-- Head `n` (of batch entry `n / 8`): its 64 columns of an array of queries. -/
abbrev rQ (n : Fin 16) : Rect S2x256x512 :=
  Rect.unit (s := S2x256x512) ![n.val / 8, 0, 64 * (n.val % 8)] S1x256x64.size (inb_q n)

/-- Head `n`'s columns of slot `s` of a two-slot buffer. -/
abbrev rKV (s : Fin 2) (n : Fin 16) : Rect S2x2x256x512 :=
  Rect.unit (s := S2x2x256x512) ![s.val, n.val / 8, 0, 64 * (n.val % 8)] S1x1x256x64.size (inb_kv s n)

/-- Head `n`'s column of row sums. -/
abbrev rL (n : Fin 16) : Rect S2x256x8 :=
  Rect.unit (s := S2x256x8) ![n.val / 8, 0, n.val % 8] S1x256x1.size (inb_l n)

theorem inb_half (bi : Fin 2) :
    ∀ a, (![bi.val, 0, 0] : Fin 3 → Nat) a + S1x256x512.size a ≤ S2x256x512.size a := by
  revert bi; decide

/-- Batch entry `bi` of an array of queries. -/
abbrev rHalf (bi : Fin 2) : Rect S2x256x512 :=
  Rect.unit (s := S2x256x512) ![bi.val, 0, 0] S1x256x512.size (inb_half bi)

/-- Batch entry `bi` of the staged result. -/
abbrev mO (bi : Fin 2) : Memref sig .tc .vmem S256x512 .f32 :=
  (sO.slice (rHalf bi) (fun _ => rfl)).squeeze S256x512 squeezes_S1x256x512_S256x512

/-- Batch entry `bi` of the result. -/
abbrev mOut (bi : Fin 2) : Memref sig .tc .hbm S256x512 .f32 :=
  (hO.slice (rHalf bi) (fun _ => rfl)).squeeze S256x512 squeezes_S1x256x512_S256x512

/-- The whole of a three-axis array. -/
abbrev rAll3 : Rect S2x256x512 :=
  Rect.unit (s := S2x256x512) ![0, 0, 0] S2x256x512.size inb_S2x256x512_S2x256x512_0_0_0

/-- Slot 0 of a two-slot buffer. -/
abbrev rSlot0 : Rect S2x2x256x512 :=
  Rect.unit (s := S2x2x256x512) ![0, 0, 0, 0] S1x2x256x512.size inb_S2x2x256x512_S1x2x256x512_0_0_0_0

/-! ## The semaphores -/

theorem inb_s8 (ci : Fin 8) : ∀ a, (![ci.val] : Fin 1 → Nat) a + S1.size a ≤ S8.size a := by
  revert ci; decide
theorem inb_s3 (j : Fin 3) : ∀ a, (![j.val] : Fin 1 → Nat) a + S1.size a ≤ S3.size a := by
  revert j; decide
theorem inb_s2 (j : Fin 2) : ∀ a, (![j.val] : Fin 1 → Nat) a + S1.size a ≤ S2.size a := by
  revert j; decide

/-- Entry `ci` of an array of eight transfer semaphores. -/
abbrev sem8 (A : DmaSems sig S8) (ci : Fin 8) : DmaSem sig :=
  ((A.slice (Rect.unit (s := S8) ![ci.val] S1.size (inb_s8 ci))).squeeze S_ squeezes_S1_S_).sem
abbrev ysend (ci : Fin 8) : DmaSem sig := sem8 cc0_scratch9 ci
abbrev yin (ci : Fin 8) : DmaSem sig := sem8 cc0_scratch10 ci
abbrev zsend (ci : Fin 8) : DmaSem sig := sem8 cc0_scratch11 ci
abbrev zin (ci : Fin 8) : DmaSem sig := sem8 cc0_scratch12 ci
abbrev insem (j : Fin 3) : DmaSem sig :=
  ((cc0_scratch13.slice (Rect.unit (s := S3) ![j.val] S1.size (inb_s3 j))).squeeze S_ squeezes_S1_S_).sem
abbrev outsem (j : Fin 2) : DmaSem sig :=
  ((cc0_scratch14.slice (Rect.unit (s := S2) ![j.val] S1.size (inb_s2 j))).squeeze S_ squeezes_S1_S_).sem
abbrev barr : Sem sig := (SemArray.scalar (sig.barrier 0 rfl) : Sems sig S_).sem

/-! ## The neighbours -/

/-- The device that differs along the second mesh axis. -/
def yp (c : Dev nD) : Dev nD := ⟨(4 * (c.val / 4) + (c.val % 2) + 2) - 2 * ((c.val / 2) % 2), by revert c; decide⟩

/-- The device that differs along the third mesh axis. -/
def zp (c : Dev nD) : Dev nD := ⟨(4 * (c.val / 4) + 2 * ((c.val / 2) % 2) + 1) - (c.val % 2), by revert c; decide⟩

/-- Which buffer device `c` sends from: the keys' where its third coordinate is 0, else the values'. -/
def zb (c : Dev nD) : Bool := decide (c.val % 2 = 1)

/-! ## The program -/

/-- Start the transfer of chunk `ci` of `buf b`'s slot 0 into slot 1 of the device `p`. -/
def ySend (b : Bool) (p : Dev nD) (ci : Fin 8) (k : PG F) : PG F :=
  .op (.enqueueDma (mChunk (buf b) 0 ci) (.remote (Dev.tc p) (mChunk (buf b) 1 ci) (.dma (ysend ci))) (.dma (yin ci))
    (wx_chunk b 0 ci) (wx_chunk b 1 ci) ⟨⟨rfl, Or.inl rfl⟩, trivial⟩) fun _ => k

/-- Pass the received chunk `ci` of `buf b`'s slot 1 on to slot 1 of the device `p`. -/
def zSend (b : Bool) (p : Dev nD) (ci : Fin 8) (k : PG F) : PG F :=
  .op (.enqueueDma (mChunk (buf b) 1 ci) (.remote (Dev.tc p) (mChunk (buf b) 1 ci) (.dma (zsend ci))) (.dma (zin ci))
    (wx_chunk b 1 ci) (wx_chunk b 1 ci) ⟨⟨rfl, Or.inl rfl⟩, trivial⟩) fun _ => k

/-- Wait on the transfer semaphore `s` for one chunk (named by the keys' buffer, as printed). -/
def chunkWait (s : DmaSem sig) (s₁ s₂ : Fin 2) (ci : Fin 8) (k : PG F) : PG F :=
  .op (.waitDma2 s (mChunk (buf false) s₁ ci) (mChunk (buf false) s₂ ci) (wx_chunk false s₁ ci) (wx_chunk false s₂ ci)) fun _ => k

/-- One head over the keys and values of slot 0: its weighted sum and its row sums, stored. -/
def head1 (n : Fin 16) (k : PG F) : PG F :=
  .op (.load qb (rQ n).toLoadRect (View.loadsAt_vmem h_S1x256x64)) fun q =>
  .op (.load kf (rKV 0 n).toLoadRect (View.loadsAt_vmem h_S1x1x256x64)) fun kk =>
  .op (.load vf (rKV 0 n).toLoadRect (View.loadsAt_vmem h_S1x1x256x64)) fun v =>
  .op (.load oS (rQ n).toLoadRect (View.loadsAt_vmem h_S1x256x64)) fun _ =>
  .op (.store oS (rQ n) (k0_pay7 q kk v) Finset.univ (View.stores_vmem_bits_univ h_S1x256x64 rfl) (.inl rfl)) fun _ =>
  .op (.load lS (rL n).toLoadRect (View.loadsAt_vmem h_S1x256x1)) fun _ =>
  .op (.store lS (rL n) (k0_pay8 q kk) Finset.univ (View.stores_vmem_bits_univ h_S1x256x1 rfl) (.inl rfl)) fun _ => k

/-- Receive chunk `ci` from the second axis and pass it on along the third. -/
def service (c : Dev nD) (ci : Fin 8) (k : PG F) : PG F :=
  chunkWait (yin ci) 0 1 ci (zSend (zb c) (zp c) ci k)

/-- Two heads over slot 0, then chunk `ci`'s service. -/
def chunkSeg (c : Dev nD) (ci : Fin 8) (k : PG F) : PG F :=
  head1 ⟨2 * ci.val, by omega⟩ (head1 ⟨2 * ci.val + 1, by omega⟩ (service c ci k))

/-- What one head's second half stores: both halves' weighted sums over both halves' row sums. -/
def outPay (q : Vec F S1x256x64 .bf16) (kk v : Vec F S1x1x256x64 .bf16) (l : Vec F S1x256x1 .f32) (o : Vec F S1x256x64 .f32) :
    FVec F S1x256x64 .f32 :=
  k0_pay78 (k0_pay76 (k0_pay5 (F := F)) q kk) (k0_pay77 q kk v) l o

/-- One head over the keys and values of slot 1, and its result. -/
def head2 (n : Fin 16) (k : PG F) : PG F :=
  .op (.load qb (rQ n).toLoadRect (View.loadsAt_vmem h_S1x256x64)) fun q =>
  .op (.load kf (rKV 1 n).toLoadRect (View.loadsAt_vmem h_S1x1x256x64)) fun kk =>
  .op (.load vf (rKV 1 n).toLoadRect (View.loadsAt_vmem h_S1x1x256x64)) fun v =>
  .op (.load lS (rL n).toLoadRect (View.loadsAt_vmem h_S1x256x1)) fun l =>
  .op (.load oS (rQ n).toLoadRect (View.loadsAt_vmem h_S1x256x64)) fun o =>
  .op (.load sO (rQ n).toLoadRect (View.loadsAt_vmem h_S1x256x64)) fun _ =>
  .op (.store sO (rQ n) (outPay q kk v l o) Finset.univ (View.stores_vmem_bits_univ h_S1x256x64 rfl) (.inl rfl)) fun _ => k

/-- Heads `8 * bi … 8 * bi + 7` over slot 1. -/
def heads2 (bi : Fin 2) (k : PG F) : PG F :=
  head2 ⟨8 * bi.val, by omega⟩ <| head2 ⟨8 * bi.val + 1, by omega⟩ <| head2 ⟨8 * bi.val + 2, by omega⟩ <|
  head2 ⟨8 * bi.val + 3, by omega⟩ <| head2 ⟨8 * bi.val + 4, by omega⟩ <| head2 ⟨8 * bi.val + 5, by omega⟩ <|
  head2 ⟨8 * bi.val + 6, by omega⟩ <| head2 ⟨8 * bi.val + 7, by omega⟩ k

/-- Wait for the chunk `ci` that the third axis' neighbour passed on. -/
def zWait (ci : Fin 8) (k : PG F) : PG F := chunkWait (zin ci) 1 1 ci k

/-- Copy batch entry `bi` of the staged result out. -/
def outStart (bi : Fin 2) (k : PG F) : PG F :=
  .op (.enqueueDma (mO bi) (.here (mOut bi)) (.dma (outsem bi)) ((View.wordExact_bits rfl).reshape _ _)
    ((View.wordExact_bits rfl).reshape _ _) ⟨Or.inl rfl, trivial⟩) fun _ => k

def outWait (bi : Fin 2) (k : PG F) : PG F :=
  .op (.waitDma2 (outsem bi) (mO bi) (mOut bi) ((View.wordExact_bits rfl).reshape _ _)
    ((View.wordExact_bits rfl).reshape _ _)) fun _ => k

/-- Batch entry `bi` over slot 1: its four chunks arrive, its eight heads run, its result leaves. -/
def half (bi : Fin 2) (k : PG F) : PG F :=
  zWait ⟨4 * bi.val, by omega⟩ <| zWait ⟨4 * bi.val + 1, by omega⟩ <| zWait ⟨4 * bi.val + 2, by omega⟩ <|
  zWait ⟨4 * bi.val + 3, by omega⟩ <| heads2 bi <| outStart bi k

/-- The departures of chunk `ci`'s two transfers. -/
def drain (ci : Fin 8) (k : PG F) : PG F := chunkWait (ysend ci) 1 0 ci (chunkWait (zsend ci) 1 1 ci k)

/-- From the queries' arrival to the end. -/
def tailP (c : Dev nD) : PG F :=
  chunkSeg c 0 <| chunkSeg c 1 <| chunkSeg c 2 <| chunkSeg c 3 <| chunkSeg c 4 <| chunkSeg c 5 <| chunkSeg c 6 <|
  chunkSeg c 7 <| half 0 <| half 1 <| outWait 0 <| outWait 1 <|
  drain 0 <| drain 1 <| drain 2 <| drain 3 <| drain 4 <| drain 5 <| drain 6 <| drain 7 <| .ret ⟨⟩

def queryP (k : PG F) : PG F :=
  .op (.waitDma2 (insem 0) hQ sQ (Memref.isWhole_whole _).wordExact (Memref.isWhole_whole _).wordExact) fun _ =>
  .op (.load sQ rAll3.toLoadRect (View.loadsAt_vmem h_S2x256x512)) fun x =>
  .op (.load qb rAll3.toLoadRect (View.loadsAt_vmem h_S2x256x512)) fun _ =>
  .op (.store qb rAll3 (k0_pay4 (k0_pay3 x)) Finset.univ (View.stores_vmem h_S2x256x512
    ((Memref.isWhole_whole _).storeExact_slice rfl _ packedbf16_S2x256x512_S2x256x512_0_0_0) (fun _ => rfl)) (.inl rfl)) fun _ => k

def sendsP (c : Dev nD) (k : PG F) : PG F :=
  ySend (zb c) (yp c) 0 <| ySend (zb c) (yp c) 1 <| ySend (zb c) (yp c) 2 <| ySend (zb c) (yp c) 3 <|
  ySend (zb c) (yp c) 4 <| ySend (zb c) (yp c) 5 <| ySend (zb c) (yp c) 6 <| ySend (zb c) (yp c) 7 k

def loadsP (k : PG F) : PG F :=
  .op (.waitDma2 (insem 1) hK sK (Memref.isWhole_whole _).wordExact (Memref.isWhole_whole _).wordExact) fun _ =>
  .op (.waitDma2 (insem 2) hV sV (Memref.isWhole_whole _).wordExact (Memref.isWhole_whole _).wordExact) fun _ =>
  .op (.load sK rAll3.toLoadRect (View.loadsAt_vmem h_S2x256x512)) fun x =>
  .op (.load kf rSlot0.toLoadRect (View.loadsAt_vmem h_S1x2x256x512)) fun _ =>
  .op (.store kf rSlot0 (k0_pay1 x) Finset.univ (View.stores_vmem h_S1x2x256x512
    ((Memref.isWhole_whole _).storeExact_slice rfl _ packedbf16_S2x2x256x512_S1x2x256x512_0_0_0_0) (fun _ => rfl)) (.inl rfl)) fun _ =>
  .op (.load sV rAll3.toLoadRect (View.loadsAt_vmem h_S2x256x512)) fun x =>
  .op (.load vf rSlot0.toLoadRect (View.loadsAt_vmem h_S1x2x256x512)) fun _ =>
  .op (.store vf rSlot0 (k0_pay2 x) Finset.univ (View.stores_vmem h_S1x2x256x512
    ((Memref.isWhole_whole _).storeExact_slice rfl _ packedbf16_S2x2x256x512_S1x2x256x512_0_0_0_0) (fun _ => rfl)) (.inl rfl)) fun _ => k

def startP (c : Dev nD) (k : PG F) : PG F :=
  .op (.enqueueDma hK (.here sK) (.dma (insem 1)) (Memref.isWhole_whole _).wordExact (Memref.isWhole_whole _).wordExact ⟨Or.inl rfl, trivial⟩) fun _ =>
  .op (.enqueueDma hV (.here sV) (.dma (insem 2)) (Memref.isWhole_whole _).wordExact (Memref.isWhole_whole _).wordExact ⟨Or.inl rfl, trivial⟩) fun _ =>
  .op (.enqueueDma hQ (.here sQ) (.dma (insem 0)) (Memref.isWhole_whole _).wordExact (Memref.isWhole_whole _).wordExact ⟨Or.inl rfl, trivial⟩) fun _ =>
  .op (.semSignal (yp c, .tc) barr 1) fun _ =>
  .op (.semSignal (zp c, .tc) barr 1) fun _ => k

/-- The body on device `c`. -/
def cleanP (c : Dev nD) : PG F :=
  startP c <| loadsP <| .op (.semWait barr 2) fun _ => sendsP c <| queryP <| tailP c

theorem dev_cases (c : Dev nD) : c = 0 ∨ c = 1 ∨ c = 2 ∨ c = 3 ∨ c = 4 ∨ c = 5 ∨ c = 6 ∨ c = 7 := by
  revert c; decide

set_option maxRecDepth 100000 in
set_option maxHeartbeats 0 in
/-- The printed body reads its device, then is the program above: by evaluating both at each device. -/
theorem body_eq (t : Fin cfg0.N) : bodyAt0 (F := F) t = .op .deviceId cleanP := by
  refine congrArg (Prog.op TpuEff.deviceId) (funext fun c => ?_)
  rcases dev_cases c with h | h | h | h | h | h | h | h <;> subst h <;> exact rfl

end Cert.KernelIdeal
-- ==== Proof.Protocol.lean ====
/- The exchange between the devices: the contents every buffer takes, what each semaphore's arrival carries, what a
   device owes its neighbours, and the order in which the waits may block. -/
module

public import proofs.«01_k».proof.Proof.Clean
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources: the pipeline's copy, and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The neighbours -/

theorem yp_yp (c : Dev nD) : yp (yp c) = c := by revert c; decide
theorem zp_zp (c : Dev nD) : zp (zp c) = c := by revert c; decide
theorem yp_zp (c : Dev nD) : yp (zp c) = zp (yp c) := by revert c; decide
theorem zb_yp (c : Dev nD) : zb (yp c) = zb c := by revert c; decide
theorem zb_zp (c : Dev nD) : zb (zp c) = !zb c := by revert c; decide

/-! ## Contents -/

/-- The element of a two-slot buffer at the same place in slot 0, as an element of one slot's array. -/
def slot0 (i : S2x2x256x512.Idx) : S1x2x256x512.Idx := fun a => match a with
  | ⟨0, _⟩ => ⟨0, Nat.one_pos⟩ | ⟨1, _⟩ => i 1 | ⟨2, _⟩ => i 2 | ⟨3, _⟩ => i 3

abbrev Arr (F : FTy → Type) : Type := S2x256x512.Idx → Elt F .f32
abbrev Two (F : FTy → Type) : Type := S2x2x256x512.Idx → Elt F .bf16

/-- Device `c`'s queries, keys and values at launch. -/
def argQ (c : Dev nD) : Arr F := m ((c : Thread nD τ).loc main_arg0)
def argK (c : Dev nD) : Arr F := m ((c : Thread nD τ).loc main_arg1)
def argV (c : Dev nD) : Arr F := m ((c : Thread nD τ).loc main_arg2)

/-- The rounded keys (`false`) or values (`true`) of device `c`, at each element of a two-slot buffer, the slot ignored. -/
def own (b : Bool) (c : Dev nD) (i : S2x2x256x512.Idx) : Elt F .bf16 := match b with
  | false => k0_pay1 (F := F) (argK m c) (slot0 i)
  | true => k0_pay2 (F := F) (argV m c) (slot0 i)

/-- The device whose keys or values slot 1 of device `c` receives: along the second axis directly, or by way of the
    third axis' neighbour. Either way it is the second axis' neighbour, or that neighbour's third-axis neighbour. -/
def src (c : Dev nD) (b : Bool) : Dev nD := if b = zb c then yp c else yp (zp c)

/-- The keys' or values' buffer of device `c`, full: its own in slot 0, the other half's in slot 1. -/
def two (c : Dev nD) (b : Bool) : Two F := fun i => if (i 0).val = 0 then own m b c i else own m b (src c b) i

/-- Device `c`'s scaled and rounded queries. -/
def qs (c : Dev nD) : Arr F → S2x256x512.Idx → Elt F .bf16 := fun x => k0_pay4 (k0_pay3 (F := F) x)

/-! ## Element sets -/

/-- Slot `s`. -/
def sSlot (s : Fin 2) : Finset S2x2x256x512.Idx := Finset.univ.filter fun i => (i 0).val = s.val
/-- Batch entry `bi` of slot `s`. -/
def sWin (s bi : Fin 2) : Finset S2x2x256x512.Idx := Finset.univ.filter fun i => (i 0).val = s.val ∧ (i 1).val = bi.val
/-- Chunk `ci` of slot `s`. -/
def sChunk (s : Fin 2) (ci : Fin 8) : Finset S2x2x256x512.Idx :=
  Finset.univ.filter fun i => (i 0).val = s.val ∧ (i 1).val = ci.val / 4 ∧ (i 2).val / 64 = ci.val % 4
/-- Batch entry `bi` of an array. -/
def sHalf (bi : Fin 2) : Finset S2x256x512.Idx := Finset.univ.filter fun i => (i 0).val = bi.val

/-- Share `q` of the elements `S` of the keys' (`false`) or values' (`true`) buffer of device `c`. -/
def pts (c : Dev nD) (b : Bool) (S : Finset S2x2x256x512.Idx) (q : PosShare TreeShare) (f : Two F) : sProp 𝕄 :=
  match b with
  | false => ((kf.view.loc (c : Thread nD τ)) ↦[S]{q} f)
  | true => ((vf.view.loc (c : Thread nD τ)) ↦[S]{q} f)

instance pts_storable (c : Dev nD) (b : Bool) (S : Finset S2x2x256x512.Idx) (q : PosShare TreeShare) (f : Two F) :
    BI.Storable (upEmb : UEmb _ 𝕄) (pts c b S q f) := by
  cases b <;> (unfold pts; infer_instance)

/-- The head of an element of an array, and its place in the head's block. -/
def hd (i : S2x256x512.Idx) : Fin 16 := ⟨8 * (i 0).val + (i 2).val / 64, by
  have h0 : (i 0).val < 2 := (i 0).isLt
  have h2 : (i 2).val < 512 := (i 2).isLt
  omega⟩
def lc (i : S2x256x512.Idx) : S1x256x64.Idx := fun a => match a with
  | ⟨0, _⟩ => ⟨0, Nat.one_pos⟩ | ⟨1, _⟩ => i 1 | ⟨2, _⟩ => ⟨(i 2).val % 64, Nat.mod_lt _ (by decide)⟩
/-- The head of a row sum, and its place. -/
def hdL (i : S2x256x8.Idx) : Fin 16 := ⟨8 * (i 0).val + (i 2).val, by
  have h0 : (i 0).val < 2 := (i 0).isLt
  have h2 : (i 2).val < 8 := (i 2).isLt
  omega⟩
def lcL (i : S2x256x8.Idx) : S1x256x1.Idx := fun a => match a with
  | ⟨0, _⟩ => ⟨0, Nat.one_pos⟩ | ⟨1, _⟩ => i 1 | ⟨2, _⟩ => ⟨0, Nat.one_pos⟩

/-- Head `n`'s block of the queries, and of slot `s` of the keys and of the values. -/
def hq (c : Dev nD) (n : Fin 16) : Vec F S1x256x64 .bf16 := fun j => qs c (argQ m c) ((rQ n).emb j)
def hk (c : Dev nD) (s : Fin 2) (n : Fin 16) : Vec F S1x1x256x64 .bf16 := fun j => two m c false ((rKV s n).emb j)
def hv (c : Dev nD) (s : Fin 2) (n : Fin 16) : Vec F S1x1x256x64 .bf16 := fun j => two m c true ((rKV s n).emb j)

/-- The first half's weighted sums and row sums, and the result, as arrays. -/
def o1 (c : Dev nD) : Arr F := fun i =>
  k0_pay7 (hq m c (hd i)) (hk m c 0 (hd i)) (hv m c 0 (hd i)) (lc i)
def l1 (c : Dev nD) : S2x256x8.Idx → Elt F .f32 := fun i => k0_pay8 (hq m c (hdL i)) (hk m c 0 (hdL i)) (lcL i)
def out (c : Dev nD) : Arr F := fun i =>
  outPay (hq m c (hd i)) (hk m c 1 (hd i)) (hv m c 1 (hd i)) (k0_pay8 (hq m c (hd i)) (hk m c 0 (hd i)))
    (k0_pay7 (hq m c (hd i)) (hk m c 0 (hd i)) (hv m c 0 (hd i))) (lc i)

/-! ## The cells -/

abbrev cell (c : Dev nD) (s : SemLoc sig) : GSem nD τ sig := ((c : Thread nD τ), s)
abbrev dcell (c : Dev nD) (k : DmaSem sig) : GSem nD τ sig := cell c (.dma k)
abbrev bcell (c : Dev nD) : GSem nD τ sig := cell c (.reg barr)

theorem ysend_val (ci : Fin 8) : (ysend ci).val = ci.val := by revert ci; decide
theorem yin_val (ci : Fin 8) : (yin ci).val = 8 + ci.val := by revert ci; decide
theorem zsend_val (ci : Fin 8) : (zsend ci).val = 16 + ci.val := by revert ci; decide
theorem zin_val (ci : Fin 8) : (zin ci).val = 24 + ci.val := by revert ci; decide
theorem insem_val (j : Fin 3) : (insem j).val = 32 + j.val := by revert j; decide
theorem outsem_val (j : Fin 2) : (outsem j).val = 35 + j.val := by revert j; decide

/-- What one chunk's, one array's and one batch entry's transfer credits. -/
abbrev nC : ℕ := (mChunk kf 0 0).view.dmaCredit
abbrev nI : ℕ := sQ.view.dmaCredit
abbrev nO : ℕ := (mOut 0).view.dmaCredit
theorem nC_pos : 0 < nC := View.dmaCredit_pos _ (by decide)
theorem nI_pos : 0 < nI := View.dmaCredit_pos _ (by decide)
theorem nO_pos : 0 < nO := View.dmaCredit_pos _ (by decide)

theorem credit_chunk (b : Bool) (s : Fin 2) (ci : Fin 8) : (mChunk (buf b) s ci).view.dmaCredit = nC := by
  cases b <;> rfl
theorem credit_out (j : Fin 2) : (mOut j).view.dmaCredit = nO := rfl

/-! ## What each arrival carries -/

/-- Paid to `c`'s barrier by a neighbour: that neighbour's slot 1 of the buffer `c` sends from, to be written. -/
def barPay (c : Dev nD) (d : Bool) : sProp 𝕄 :=
  iprop(∃ f, pts (if d then zp c else yp c) (zb c) (sSlot 1) fullShare f)
def ysendPay (c : Dev nD) (ci : Fin 8) : sProp 𝕄 := pts c (zb c) (sChunk 0 ci) fullShare.left (two m c (zb c))
def yinPay (c : Dev nD) (ci : Fin 8) : sProp 𝕄 := pts c (zb c) (sChunk 1 ci) fullShare (two m c (zb c))
def zsendPay (c : Dev nD) (ci : Fin 8) : sProp 𝕄 := pts c (zb c) (sChunk 1 ci) fullShare.left (two m c (zb c))
def zinPay (c : Dev nD) (ci : Fin 8) : sProp 𝕄 := pts c (!zb c) (sChunk 1 ci) fullShare (two m c (!zb c))
/-- The three arrays staged, beside the arrays they came from. -/
def inPay (c : Dev nD) (j : Fin 3) : sProp 𝕄 := match j with
  | ⟨0, _⟩ => iprop((sQ.view.loc (c : Thread nD τ) ↦{fullShare} argQ m c) ∗ (hQ.view.loc (c : Thread nD τ) ↦{fullShare} argQ m c))
  | ⟨1, _⟩ => iprop((sK.view.loc (c : Thread nD τ) ↦{fullShare} argK m c) ∗ (hK.view.loc (c : Thread nD τ) ↦{fullShare} argK m c))
  | ⟨2, _⟩ => iprop((sV.view.loc (c : Thread nD τ) ↦{fullShare} argV m c) ∗ (hV.view.loc (c : Thread nD τ) ↦{fullShare} argV m c))
def outArr (c : Dev nD) (bi : Fin 2) : sProp 𝕄 :=
  iprop((hO.view.loc (c : Thread nD τ) ↦[sHalf bi]{fullShare} out m c) ∗ (sO.view.loc (c : Thread nD τ) ↦[sHalf bi]{fullShare} out m c))

instance inPay_storable (c : Dev nD) (j : Fin 3) : BI.Storable (upEmb : UEmb _ 𝕄) (inPay m c j) := by
  fin_cases j <;> (unfold inPay; infer_instance)

/-- What the transfer semaphore `k` of device `c` delivers. -/
def dmaPay (c : Dev nD) (k : Fin 37) : sProp 𝕄 :=
  if h : k.val < 8 then ysendPay m c ⟨k.val, h⟩
  else if h : k.val < 16 then yinPay m c ⟨k.val - 8, by omega⟩
  else if h : k.val < 24 then zsendPay m c ⟨k.val - 16, by omega⟩
  else if h : k.val < 32 then zinPay m c ⟨k.val - 24, by omega⟩
  else if h : k.val < 35 then inPay m c ⟨k.val - 32, by omega⟩
  else outArr m c ⟨k.val - 35, by omega⟩

instance dmaPay_storable (c : Dev nD) (k : Fin 37) : BI.Storable (upEmb : UEmb _ 𝕄) (dmaPay m c k) := by
  unfold dmaPay ysendPay yinPay zsendPay zinPay outArr
  (repeat' split) <;> infer_instance

instance barPay_storable (c : Dev nD) (d : Bool) : BI.Storable (upEmb : UEmb _ 𝕄) (barPay (F := F) c d) := by
  unfold barPay; infer_instance

def dmaAmt (k : Fin 37) : ℕ := if k.val < 32 then nC else if k.val < 35 then nI else nO
theorem dmaAmt_pos (k : Fin 37) : 0 < dmaAmt k := by
  unfold dmaAmt; split; exact nC_pos; split; exact nI_pos; exact nO_pos

/-! ## The schedule: one round per cell -/

def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma k => dmaAmt k
  payload g _ d := match g.2 with | .reg _ => barPay g.1.1 d | .dma k => dmaPay m g.1.1 k
  amount_pos g _ _ _ := by
    rcases g with ⟨_, _ | k⟩
    · exact Nat.one_pos
    · exact dmaAmt_pos k

instance Rd_payload_storable (g : GSem nD τ sig) (r : ℕ) (d : Bool) :
    BI.Storable (upEmb : UEmb _ 𝕄) ((Rd (F := F) m).payload g r d) := by
  rcases g with ⟨⟨c, _⟩, _ | k⟩
  · exact barPay_storable c d
  · exact dmaPay_storable m c k

section Sched
variable (c : Dev nD)

theorem duties_bar : (Rd (F := F) m).duties (bcell c) 0 = Finset.univ := by dsimp only [Rd]; exact if_pos ⟨rfl, rfl⟩
theorem duties_dma (k : DmaSem sig) : (Rd (F := F) m).duties (dcell c k) 0 = {false} := by dsimp only [Rd]; exact if_pos ⟨rfl, rfl⟩
theorem duties_later (g : GSem nD τ sig) : ∀ r, 1 ≤ r → (Rd (F := F) m).duties g r = ∅ :=
  fun r hr => by dsimp only [Rd]; exact if_neg fun h => by omega
theorem amount_bar (d : Bool) : (Rd (F := F) m).amount (bcell c) 0 d = 1 := rfl
theorem amount_dma (k : DmaSem sig) (d : Bool) : (Rd (F := F) m).amount (dcell c k) 0 d = dmaAmt k := rfl
theorem payload_bar (d : Bool) : (Rd (F := F) m).payload (bcell c) 0 d = barPay c d := rfl
theorem payload_dma (k : DmaSem sig) (d : Bool) : (Rd (F := F) m).payload (dcell c k) 0 d = dmaPay m c k := rfl
theorem expect_bar : (Rd (F := F) m).expect (bcell c) 0 = 2 := by
  unfold Schedule.expect Schedule.amountOf
  rw [duties_bar, Finset.sum_congr rfl fun d _ => amount_bar m c d, Finset.sum_const, Finset.card_univ, Fintype.card_bool, smul_eq_mul]
theorem expect_dma (k : DmaSem sig) : (Rd (F := F) m).expect (dcell c k) 0 = dmaAmt k := by
  unfold Schedule.expect Schedule.amountOf; rw [duties_dma, Finset.sum_singleton, amount_dma]
theorem rest_bar : bigSep ((Rd (F := F) m).duties (bcell c) 0 \ ∅) (fun d => (Rd (F := F) m).payload (bcell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_dma (k : DmaSem sig) :
    bigSep ((Rd (F := F) m).duties (dcell c k) 0 \ ∅) (fun d => (Rd (F := F) m).payload (dcell c k) 0 d) = dmaPay m c k := by
  rw [Finset.sdiff_empty, duties_dma, bigSep_singleton, payload_dma]

theorem amt_ysend (ci : Fin 8) : dmaAmt (ysend ci) = nC := if_pos (by rw [ysend_val]; omega)
theorem amt_yin (ci : Fin 8) : dmaAmt (yin ci) = nC := if_pos (by rw [yin_val]; omega)
theorem amt_zsend (ci : Fin 8) : dmaAmt (zsend ci) = nC := if_pos (by rw [zsend_val]; omega)
theorem amt_zin (ci : Fin 8) : dmaAmt (zin ci) = nC := if_pos (by rw [zin_val]; omega)
theorem amt_insem (j : Fin 3) : dmaAmt (insem j) = nI := by
  unfold dmaAmt; rw [insem_val, if_neg (by omega), if_pos (by omega)]
theorem amt_outsem (j : Fin 2) : dmaAmt (outsem j) = nO := by
  unfold dmaAmt; rw [outsem_val, if_neg (by omega), if_neg (by omega)]

theorem pay_ysend (ci : Fin 8) : dmaPay m c (ysend ci) = ysendPay m c ci := by
  have h := ysend_val ci
  unfold dmaPay; rw [dif_pos (by omega)]; congr 1; exact Fin.ext h
theorem pay_yin (ci : Fin 8) : dmaPay m c (yin ci) = yinPay m c ci := by
  have h := yin_val ci
  unfold dmaPay; rw [dif_neg (by omega), dif_pos (by omega)]; congr 1; exact Fin.ext (by dsimp only; omega)
theorem pay_zsend (ci : Fin 8) : dmaPay m c (zsend ci) = zsendPay m c ci := by
  have h := zsend_val ci
  unfold dmaPay; rw [dif_neg (by omega), dif_neg (by omega), dif_pos (by omega)]; congr 1; exact Fin.ext (by dsimp only; omega)
theorem pay_zin (ci : Fin 8) : dmaPay m c (zin ci) = zinPay m c ci := by
  have h := zin_val ci
  unfold dmaPay; rw [dif_neg (by omega), dif_neg (by omega), dif_neg (by omega), dif_pos (by omega)]; congr 1; exact Fin.ext (by dsimp only; omega)
theorem pay_insem (j : Fin 3) : dmaPay m c (insem j) = inPay m c j := by
  have h := insem_val j
  unfold dmaPay; rw [dif_neg (by omega), dif_neg (by omega), dif_neg (by omega), dif_neg (by omega), dif_pos (by omega)]; congr 1; exact Fin.ext (by dsimp only; omega)
theorem pay_outsem (j : Fin 2) : dmaPay m c (outsem j) = outArr m c j := by
  have h := outsem_val j
  unfold dmaPay; rw [dif_neg (by omega), dif_neg (by omega), dif_neg (by omega), dif_neg (by omega), dif_neg (by omega)]; congr 1; exact Fin.ext (by dsimp only; omega)

end Sched

/-! ## What a device owes; the levels -/

/-- The chunks from `n` on, owed to the second axis' neighbour. -/
def oY (c : Dev nD) (n : ℕ) : CellTallies nD τ sig Unit :=
  ∑ ci ∈ (Finset.univ : Finset (Fin 8)).filter (fun ci => n ≤ ci.val), tallyAt (dcell (yp c) (yin ci)) () nC
/-- The chunks from `n` on, owed to the third axis' neighbour. -/
def oZ (c : Dev nD) (n : ℕ) : CellTallies nD τ sig Unit :=
  ∑ ci ∈ (Finset.univ : Finset (Fin 8)).filter (fun ci => n ≤ ci.val), tallyAt (dcell (zp c) (zin ci)) () nC

theorem filter_peel (ci : Fin 8) : (Finset.univ : Finset (Fin 8)).filter (fun x => ci.val ≤ x.val)
    = insert ci ((Finset.univ : Finset (Fin 8)).filter (fun x => ci.val + 1 ≤ x.val)) := by revert ci; decide
theorem filter_peel_notMem (ci : Fin 8) : ci ∉ (Finset.univ : Finset (Fin 8)).filter (fun x => ci.val + 1 ≤ x.val) := by
  revert ci; decide

theorem oY_peel (c : Dev nD) (ci : Fin 8) : oY c ci.val = oY c (ci.val + 1) + tallyAt (dcell (yp c) (yin ci)) () nC := by
  unfold oY; rw [filter_peel, Finset.sum_insert (filter_peel_notMem ci), add_comm]
theorem oZ_peel (c : Dev nD) (ci : Fin 8) : oZ c ci.val = oZ c (ci.val + 1) + tallyAt (dcell (zp c) (zin ci)) () nC := by
  unfold oZ; rw [filter_peel, Finset.sum_insert (filter_peel_notMem ci), add_comm]
theorem oY_end (c : Dev nD) : oY c 8 = 0 := by
  unfold oY; rw [show (Finset.univ : Finset (Fin 8)).filter (fun x => 8 ≤ x.val) = ∅ from by decide, Finset.sum_empty]
theorem oZ_end (c : Dev nD) : oZ c 8 = 0 := by
  unfold oZ; rw [show (Finset.univ : Finset (Fin 8)).filter (fun x => 8 ≤ x.val) = ∅ from by decide, Finset.sum_empty]

/-- What a device owes after its two signals, after the first, and at launch. -/
def oS2 (c : Dev nD) : CellTallies nD τ sig Unit := oZ c 0 + oY c 0
def oS1 (c : Dev nD) : CellTallies nD τ sig Unit := oS2 c + tallyAt (bcell (zp c)) () 1
def oS0 (c : Dev nD) : CellTallies nD τ sig Unit := oS1 c + tallyAt (bcell (yp c)) () 1

theorem sum_tally_pos {T : Finset (Fin 8)} {f : Fin 8 → GSem nD τ sig} {N : ℕ} {g : GSem nD τ sig} {u : Unit}
    (h : 0 < (∑ ci ∈ T, tallyAt (f ci) () N : CellTallies nD τ sig Unit) g u) : ∃ ci, g = f ci := by
  rw [Finset.sum_apply, Finsupp.finset_sum_apply] at h
  by_contra hn
  rw [Finset.sum_eq_zero fun ci _ => by rw [tallyAt_apply, if_neg fun h' => hn ⟨ci, h'.1⟩]] at h
  exact Nat.lt_irrefl 0 h

def L (g : GSem nD τ sig) : Finset Unit := if g.1.2 = .tc then {()} else ∅
/-- Barrier cells at 1, second-axis arrivals at 2, third-axis arrivals at 3, everything else at 0. -/
def lv (g : GSem nD τ sig) (_ : Unit) : ℕ := match g.2 with
  | .reg _ => 1
  | .dma k => if k.val < 8 then 0 else if k.val < 16 then 2 else if k.val < 24 then 0 else if k.val < 32 then 3 else 0

theorem L_of_ne (g : GSem nD τ sig) (h : g.1.2 ≠ .tc) : L g = ∅ := if_neg h
theorem L_tc (c : Dev nD) (sm : SemLoc sig) : L (cell c sm) = {()} := if_pos rfl

theorem lv_yin (c : Dev nD) (ci : Fin 8) : lv (dcell c (yin ci)) () = 2 := by
  have h := yin_val ci
  dsimp only [lv]; rw [if_neg (by omega), if_pos (by omega)]
theorem lv_zin (c : Dev nD) (ci : Fin 8) : lv (dcell c (zin ci)) () = 3 := by
  have h := zin_val ci
  dsimp only [lv]; rw [if_neg (by omega), if_neg (by omega), if_neg (by omega), if_pos (by omega)]
theorem lv_insem (c : Dev nD) (j : Fin 3) : lv (dcell c (insem j)) () = 0 := by
  have h := insem_val j
  dsimp only [lv]; rw [if_neg (by omega), if_neg (by omega), if_neg (by omega), if_neg (by omega)]
theorem lv_bar (c : Dev nD) : lv (bcell c) () = 1 := rfl

/-- A wait below everything owed may block. -/
theorem mayWait_of (c : Dev nD) (sm : SemLoc sig) (O : CellTallies nD τ sig Unit) (b : ℕ) (hb : lv (cell c sm) () ≤ b)
    (hO : ∀ g u, 0 < O g u → g.1.2 = .tc ∧ b < lv g ()) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem oZ_pos {c : Dev nD} {n : ℕ} (g : GSem nD τ sig) (u : Unit) (h : 0 < oZ c n g u) : g.1.2 = .tc ∧ 2 < lv g () := by
  obtain ⟨ci, rfl⟩ := sum_tally_pos h
  exact ⟨rfl, by rw [lv_zin]; decide⟩
theorem oS2_pos {c : Dev nD} {n : ℕ} (g : GSem nD τ sig) (u : Unit) (h : 0 < (oZ c 0 + oY c n) g u) : g.1.2 = .tc ∧ 1 < lv g () := by
  rw [Pi.add_apply, Finsupp.add_apply] at h
  rcases Nat.eq_zero_or_pos (oZ c 0 g u) with h0 | h0
  · rw [h0, Nat.zero_add] at h
    obtain ⟨ci, rfl⟩ := sum_tally_pos h
    exact ⟨rfl, by rw [lv_yin]; decide⟩
  · exact ⟨(oZ_pos g u h0).1, lt_trans (by decide) (oZ_pos g u h0).2⟩

theorem mayWait_in (c : Dev nD) (j : Fin 3) (n : ℕ) :
    (levAts L lv : sProp 𝕄) ⊢ MayWait (c : Thread nD τ) (.dma (insem j)) () (oZ c 0 + oY c n) :=
  mayWait_of c _ _ 0 (le_of_eq (lv_insem c j)) fun g u h => ⟨(oS2_pos g u h).1, lt_trans (by decide) (oS2_pos g u h).2⟩
theorem mayWait_bar (c : Dev nD) : (levAts L lv : sProp 𝕄) ⊢ MayWait (c : Thread nD τ) (.reg barr) () (oZ c 0 + oY c 0) :=
  mayWait_of c _ _ 1 (le_of_eq (lv_bar c)) oS2_pos
theorem mayWait_yin (c : Dev nD) (ci : Fin 8) (n : ℕ) : (levAts L lv : sProp 𝕄) ⊢ MayWait (c : Thread nD τ) (.dma (yin ci)) () (oZ c n) :=
  mayWait_of c _ _ 2 (le_of_eq (lv_yin c ci)) oZ_pos

end Cert.KernelIdeal
-- ==== Proof.Moves.lean ====
/- Where the chunks, slots and batch entries of the buffers lie, how pieces of a buffer split and join, and what a
   transferred chunk leaves where it lands. -/
module

public import proofs.«01_k».proof.Proof.Protocol

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## Rectangles as element sets -/

theorem bounds4 (i : S2x2x256x512.Idx) : (i 0).val < 2 ∧ (i 1).val < 2 ∧ (i 2).val < 256 ∧ (i 3).val < 512 :=
  ⟨(i 0).isLt, (i 1).isLt, (i 2).isLt, (i 3).isLt⟩
theorem bounds3 (i : S2x256x512.Idx) : (i 0).val < 2 ∧ (i 1).val < 256 ∧ (i 2).val < 512 :=
  ⟨(i 0).isLt, (i 1).isLt, (i 2).isLt⟩

theorem mem_chunk (s : Fin 2) (ci : Fin 8) (i : S2x2x256x512.Idx) :
    i ∈ sChunk s ci ↔ (i 0).val = s.val ∧ (i 1).val = ci.val / 4 ∧ (i 2).val / 64 = ci.val % 4 := by
  unfold sChunk; rw [Finset.mem_filter]; exact and_iff_right (Finset.mem_univ _)
theorem mem_win (s bi : Fin 2) (i : S2x2x256x512.Idx) : i ∈ sWin s bi ↔ (i 0).val = s.val ∧ (i 1).val = bi.val := by
  unfold sWin; rw [Finset.mem_filter]; exact and_iff_right (Finset.mem_univ _)
theorem mem_slot (s : Fin 2) (i : S2x2x256x512.Idx) : i ∈ sSlot s ↔ (i 0).val = s.val := by
  unfold sSlot; rw [Finset.mem_filter]; exact and_iff_right (Finset.mem_univ _)
theorem mem_half (bi : Fin 2) (i : S2x256x512.Idx) : i ∈ sHalf bi ↔ (i 0).val = bi.val := by
  unfold sHalf; rw [Finset.mem_filter]; exact and_iff_right (Finset.mem_univ _)

theorem set_rChunk (s : Fin 2) (ci : Fin 8) : (rChunk s ci).set = sChunk s ci := by
  ext i
  have hb := bounds4 i
  rw [Rect.mem_set_unit, mem_chunk, Fin.forall_fin_succ, Fin.forall_fin_succ, Fin.forall_fin_succ, Fin.forall_fin_succ]
  show (s.val ≤ (i 0).val ∧ (i 0).val < s.val + 1) ∧ (ci.val / 4 ≤ (i 1).val ∧ (i 1).val < ci.val / 4 + 1)
    ∧ (64 * (ci.val % 4) ≤ (i 2).val ∧ (i 2).val < 64 * (ci.val % 4) + 64) ∧ (0 ≤ (i 3).val ∧ (i 3).val < 0 + 512) ∧ _ ↔ _
  constructor
  · rintro ⟨h0, h1, h2, -, -⟩; omega
  · rintro ⟨h0, h1, h2⟩; exact ⟨by omega, by omega, by omega, by omega, fun x => x.elim0⟩

theorem set_rHalf (bi : Fin 2) : (rHalf bi).set = sHalf bi := by
  ext i
  have hb := bounds3 i
  rw [Rect.mem_set_unit, mem_half, Fin.forall_fin_succ, Fin.forall_fin_succ, Fin.forall_fin_succ]
  show (bi.val ≤ (i 0).val ∧ (i 0).val < bi.val + 1) ∧ (0 ≤ (i 1).val ∧ (i 1).val < 0 + 256)
    ∧ (0 ≤ (i 2).val ∧ (i 2).val < 0 + 512) ∧ _ ↔ _
  constructor
  · rintro ⟨h0, -⟩; omega
  · rintro h0; exact ⟨by omega, by omega, by omega, fun x => x.elim0⟩

theorem set_rSlot0 : rSlot0.set = sSlot 0 := by
  ext i
  have hb := bounds4 i
  rw [Rect.mem_set_unit, mem_slot, Fin.forall_fin_succ, Fin.forall_fin_succ, Fin.forall_fin_succ, Fin.forall_fin_succ]
  show (0 ≤ (i 0).val ∧ (i 0).val < 0 + 1) ∧ (0 ≤ (i 1).val ∧ (i 1).val < 0 + 2)
    ∧ (0 ≤ (i 2).val ∧ (i 2).val < 0 + 256) ∧ (0 ≤ (i 3).val ∧ (i 3).val < 0 + 512) ∧ _ ↔ (i 0).val = 0
  constructor
  · rintro ⟨h0, -⟩; omega
  · rintro h0; exact ⟨by omega, by omega, by omega, by omega, fun x => x.elim0⟩

theorem mem_rKV (s : Fin 2) (n : Fin 16) (i : S2x2x256x512.Idx) :
    i ∈ (rKV s n).set ↔ (i 0).val = s.val ∧ (i 1).val = n.val / 8 ∧ (i 3).val / 64 = n.val % 8 := by
  have hb := bounds4 i
  rw [Rect.mem_set_unit, Fin.forall_fin_succ, Fin.forall_fin_succ, Fin.forall_fin_succ, Fin.forall_fin_succ]
  show (s.val ≤ (i 0).val ∧ (i 0).val < s.val + 1) ∧ (n.val / 8 ≤ (i 1).val ∧ (i 1).val < n.val / 8 + 1)
    ∧ (0 ≤ (i 2).val ∧ (i 2).val < 0 + 256) ∧ (64 * (n.val % 8) ≤ (i 3).val ∧ (i 3).val < 64 * (n.val % 8) + 64) ∧ _ ↔ _
  constructor
  · rintro ⟨h0, h1, -, h2, -⟩; omega
  · rintro ⟨h0, h1, h2⟩; exact ⟨by omega, by omega, by omega, by omega, fun x => x.elim0⟩

theorem mem_rQ (n : Fin 16) (i : S2x256x512.Idx) : i ∈ (rQ n).set ↔ hd i = n := by
  have hb := bounds3 i
  rw [Rect.mem_set_unit, Fin.forall_fin_succ, Fin.forall_fin_succ, Fin.forall_fin_succ]
  show (n.val / 8 ≤ (i 0).val ∧ (i 0).val < n.val / 8 + 1) ∧ (0 ≤ (i 1).val ∧ (i 1).val < 0 + 256)
    ∧ (64 * (n.val % 8) ≤ (i 2).val ∧ (i 2).val < 64 * (n.val % 8) + 64) ∧ _ ↔ _
  rw [Fin.ext_iff]
  show _ ↔ 8 * (i 0).val + (i 2).val / 64 = n.val
  constructor
  · rintro ⟨h0, -, h2, -⟩; omega
  · intro h; exact ⟨by omega, by omega, by omega, fun x => x.elim0⟩

theorem boundsL (i : S2x256x8.Idx) : (i 0).val < 2 ∧ (i 1).val < 256 ∧ (i 2).val < 8 := ⟨(i 0).isLt, (i 1).isLt, (i 2).isLt⟩

theorem mem_rL (n : Fin 16) (i : S2x256x8.Idx) : i ∈ (rL n).set ↔ hdL i = n := by
  have hb := boundsL i
  rw [Rect.mem_set_unit, Fin.forall_fin_succ, Fin.forall_fin_succ, Fin.forall_fin_succ]
  show (n.val / 8 ≤ (i 0).val ∧ (i 0).val < n.val / 8 + 1) ∧ (0 ≤ (i 1).val ∧ (i 1).val < 0 + 256)
    ∧ (n.val % 8 ≤ (i 2).val ∧ (i 2).val < n.val % 8 + 1) ∧ _ ↔ _
  rw [Fin.ext_iff]
  show _ ↔ 8 * (i 0).val + (i 2).val = n.val
  constructor
  · rintro ⟨h0, -, h2, -⟩; omega
  · intro h; exact ⟨by omega, by omega, by omega, fun x => x.elim0⟩

/-- An element of a head's block, in its coordinates. -/
theorem emb_rQ_hd (n : Fin 16) (j : S1x256x64.Idx) : hd ((rQ n).emb j) = n := by
  have h := (mem_rQ n ((rQ n).emb j)).mp ((rQ n).toLoadRect.idx_mem j); exact h
theorem emb_rQ_lc (n : Fin 16) (j : S1x256x64.Idx) : lc ((rQ n).emb j) = j := by
  have h0 : (j 0).val < 1 := (j 0).isLt
  have h2 : (j 2).val < 64 := (j 2).isLt
  funext a
  refine Fin.ext ?_
  match a with
  | ⟨0, _⟩ => show 0 = (j 0).val; omega
  | ⟨1, _⟩ => show 0 + 1 * (j 1).val = (j 1).val; omega
  | ⟨2, _⟩ => show (64 * (n.val % 8) + 1 * (j 2).val) % 64 = (j 2).val; omega
theorem emb_rL_hd (n : Fin 16) (j : S1x256x1.Idx) : hdL ((rL n).emb j) = n := by
  have h := (mem_rL n ((rL n).emb j)).mp ((rL n).toLoadRect.idx_mem j); exact h
theorem emb_rL_lc (n : Fin 16) (j : S1x256x1.Idx) : lcL ((rL n).emb j) = j := by
  have h0 : (j 0).val < 1 := (j 0).isLt
  have h2 : (j 2).val < 1 := (j 2).isLt
  funext a
  refine Fin.ext ?_
  match a with
  | ⟨0, _⟩ => show 0 = (j 0).val; omega
  | ⟨1, _⟩ => show 0 + 1 * (j 1).val = (j 1).val; omega
  | ⟨2, _⟩ => show 0 = (j 2).val; omega

/-! ## Pieces of a buffer -/

theorem eqv {P Q : sProp 𝕄} (h : P ⊣⊢ Q) : P = Q := BI.equiv_iff.mp ⟨h.1, h.2⟩

section Pts
variable {c : Dev nD} {b : Bool} {S T : Finset S2x2x256x512.Idx} {q q₁ q₂ : PosShare TreeShare} {f g : Two F}

theorem pts_congr (h : ∀ i ∈ S, f i = g i) : (pts c b S q f : sProp 𝕄) = pts c b S q g := by
  cases b
  · exact pointsTo_congr (ℓ := kf.view.loc (c : Thread nD τ)) h
  · exact pointsTo_congr (ℓ := vf.view.loc (c : Thread nD τ)) h
theorem pts_union (h : Disjoint S T) : (pts c b (S ∪ T) q f : sProp 𝕄) = iprop(pts c b S q f ∗ pts c b T q f) := by
  cases b
  · exact eqv (pointsTo_union (ℓ := kf.view.loc (c : Thread nD τ)) h)
  · exact eqv (pointsTo_union (ℓ := vf.view.loc (c : Thread nD τ)) h)
theorem pts_biUnion {I : Type} (A : Finset I) (K : I → Finset S2x2x256x512.Idx)
    (h : ∀ t ∈ A, ∀ t' ∈ A, t ≠ t' → Disjoint (K t) (K t')) :
    (pts c b (A.biUnion K) q f : sProp 𝕄) = bigSep A fun t => pts c b (K t) q f := by
  cases b
  · exact pointsTo_biUnion (ℓ := kf.view.loc (c : Thread nD τ)) A K h
  · exact pointsTo_biUnion (ℓ := vf.view.loc (c : Thread nD τ)) A K h
/-- A whole share in two. -/
theorem pts_halves : (pts c b S fullShare f : sProp 𝕄) = iprop(pts c b S fullShare.left f ∗ pts c b S fullShare.right f) := by
  cases b
  · exact eqv (pointsTo_share (ℓ := kf.view.loc (c : Thread nD τ)) (PosShare.mem_left_op_right fullShare))
  · exact eqv (pointsTo_share (ℓ := vf.view.loc (c : Thread nD τ)) (PosShare.mem_left_op_right fullShare))

theorem pts_set (h : S = T) : (pts c b S q f : sProp 𝕄) = pts c b T q f := by rw [h]

/-- A whole buffer is its two slots. -/
theorem pts_slots : (pts c b Finset.univ q f : sProp 𝕄) = iprop(pts c b (sSlot 0) q f ∗ pts c b (sSlot 1) q f) := by
  refine (pts_set ?_).trans (pts_union ?_)
  · ext i
    have hb := bounds4 i
    rw [Finset.mem_union, mem_slot, mem_slot]
    exact ⟨fun _ => by show (i 0).val = 0 ∨ (i 0).val = 1; omega, fun _ => Finset.mem_univ _⟩
  · refine Finset.disjoint_left.mpr fun i h h' => ?_
    rw [mem_slot] at h h'
    rw [h] at h'; exact absurd h' (by decide)

/-- A slot is its eight chunks. -/
theorem pts_chunks (s : Fin 2) : (pts c b (sSlot s) q f : sProp 𝕄) = bigSep Finset.univ fun ci : Fin 8 => pts c b (sChunk s ci) q f := by
  refine (pts_set ?_).trans (pts_biUnion _ _ ?_)
  · ext i
    have hb := bounds4 i
    rw [Finset.mem_biUnion, mem_slot]
    constructor
    · intro h
      exact ⟨⟨4 * (i 1).val + (i 2).val / 64, by omega⟩, Finset.mem_univ _,
        (mem_chunk _ _ _).mpr ⟨h, by dsimp only; omega, by dsimp only; omega⟩⟩
    · rintro ⟨ci, -, h⟩; exact ((mem_chunk _ _ _).mp h).1
  · intro t _ t' _ hne
    refine Finset.disjoint_left.mpr fun i h h' => hne (Fin.ext ?_)
    have h := (mem_chunk _ _ _).mp h
    have h' := (mem_chunk _ _ _).mp h'
    omega

/-- A slot is its two batch entries. -/
theorem pts_wins (s : Fin 2) : (pts c b (sSlot s) q f : sProp 𝕄) = iprop(pts c b (sWin s 0) q f ∗ pts c b (sWin s 1) q f) := by
  refine (pts_set ?_).trans (pts_union ?_)
  · ext i
    have hb := bounds4 i
    rw [Finset.mem_union, mem_win, mem_win, mem_slot]
    exact ⟨fun h => by show (_ ∧ (i 1).val = 0) ∨ (_ ∧ (i 1).val = 1); omega, fun h => by omega⟩
  · refine Finset.disjoint_left.mpr fun i h h' => ?_
    rw [mem_win] at h h'
    rw [h.2] at h'; exact absurd h'.2 (by decide)

/-- Four chunks are a batch entry. -/
theorem pts_win (s bi : Fin 2) : (pts c b (sWin s bi) q f : sProp 𝕄)
    = bigSep Finset.univ fun k : Fin 4 => pts c b (sChunk s ⟨4 * bi.val + k.val, by omega⟩) q f := by
  refine (pts_set ?_).trans (pts_biUnion _ _ ?_)
  · ext i
    have hb := bounds4 i
    rw [Finset.mem_biUnion, mem_win]
    constructor
    · rintro ⟨h, h1⟩
      exact ⟨⟨(i 2).val / 64, by omega⟩, Finset.mem_univ _,
        (mem_chunk _ _ _).mpr ⟨h, by dsimp only; omega, by dsimp only; omega⟩⟩
    · rintro ⟨k, -, h⟩
      have h := (mem_chunk _ _ _).mp h
      dsimp only at h
      exact ⟨h.1, by omega⟩
  · intro t _ t' _ hne
    refine Finset.disjoint_left.mpr fun i h h' => hne (Fin.ext ?_)
    have h := (mem_chunk _ _ _).mp h
    have h' := (mem_chunk _ _ _).mp h'
    dsimp only at h h'
    omega

/-- The sent buffer and the other are the keys' and the values'. -/
theorem pts_both (c' : Dev nD) : (iprop(pts c (zb c') S q (two m c (zb c')) ∗ pts c (!zb c') S q (two m c (!zb c'))) : sProp 𝕄)
    = iprop(pts c false S q (two m c false) ∗ pts c true S q (two m c true)) := by
  cases zb c'
  · rfl
  · exact eqv Laws.sep_comm

end Pts

/-! ## A transferred chunk -/

theorem set_mChunk (s : Fin 2) (ci : Fin 8) : (mChunk (buf false) s ci).view.set = sChunk s ci :=
  (View.set_reshape _ _).trans ((View.set_slice_whole cc0_scratch5 (rChunk s ci)).trans (set_rChunk s ci))
theorem set_mChunk' (s : Fin 2) (ci : Fin 8) : (mChunk (buf true) s ci).view.set = sChunk s ci :=
  (View.set_reshape _ _).trans ((View.set_slice_whole cc0_scratch6 (rChunk s ci)).trans (set_rChunk s ci))

/-- What a landing leaves under an element of the destination: what the source held in the same place. -/
theorem land_at {sp sp' : Space} {S : Shape} {e : EltTy} (v : View sig .tc sp S e) (w : View sig .tc sp' S e)
    (fd : v.ty.Contents (Elt F)) (fs : w.ty.Contents (Elt F)) (y : S.Idx) :
    v.write (Elt F) fd (w.read (Elt F) fs) Finset.univ (v.emb y) = _root_.cast (congrArg (Elt F) v.elt_eq.symm) (w.read (Elt F) fs y) :=
  View.write_emb_of_mem _ _ (Finset.mem_univ _)

/-- The contents `g` are where chunk `ci` of `fs`'s slot `s` lands in slot 1. -/
def Lands (s : Fin 2) (ci : Fin 8) (fs g : Two F) : Prop :=
  ∀ z : S1x1x64x512.Idx, g ((rChunk 1 ci).emb z) = fs ((rChunk s ci).emb z)

theorem land_chunk {s : Fin 2} {ci : Fin 8} {fs g fd : Two F} (h : Lands s ci fs g) :
    ∀ i ∈ sChunk 1 ci, (mChunk kf 1 ci).view.write (Elt F) fd ((mChunk kf s ci).view.read (Elt F) fs) Finset.univ i = g i := by
  intro i hi
  have hi : i ∈ (mChunk kf 1 ci).view.set := by rw [set_mChunk]; exact hi
  obtain ⟨y, -, rfl⟩ := Finset.mem_map.mp hi
  exact (land_at (F := F) (mChunk kf 1 ci).view (mChunk kf s ci).view fd fs y).trans (h _).symm
theorem land_chunk' {s : Fin 2} {ci : Fin 8} {fs g fd : Two F} (h : Lands s ci fs g) :
    ∀ i ∈ sChunk 1 ci, (mChunk vf 1 ci).view.write (Elt F) fd ((mChunk vf s ci).view.read (Elt F) fs) Finset.univ i = g i := by
  intro i hi
  have hi : i ∈ (mChunk vf 1 ci).view.set := by rw [set_mChunk']; exact hi
  obtain ⟨y, -, rfl⟩ := Finset.mem_map.mp hi
  exact (land_at (F := F) (mChunk vf 1 ci).view (mChunk vf s ci).view fd fs y).trans (h _).symm

/-- Both sides ignore the slot. -/
theorem slot0_chunk (s s' : Fin 2) (ci : Fin 8) (z : S1x1x64x512.Idx) :
    slot0 ((rChunk s ci).emb z) = slot0 ((rChunk s' ci).emb z) := by
  funext a
  match a with
  | ⟨0, _⟩ => rfl
  | ⟨1, _⟩ => exact Fin.ext rfl
  | ⟨2, _⟩ => exact Fin.ext rfl
  | ⟨3, _⟩ => exact Fin.ext rfl

theorem own_chunk (b : Bool) (c : Dev nD) (s s' : Fin 2) (ci : Fin 8) (z : S1x1x64x512.Idx) :
    own m b c ((rChunk s ci).emb z) = own m b c ((rChunk s' ci).emb z) := by
  unfold own; cases b <;> (dsimp only; rw [slot0_chunk s s' ci z])

theorem chunk_slot (s : Fin 2) (ci : Fin 8) (z : S1x1x64x512.Idx) : (((rChunk s ci).emb z) 0).val = s.val := by
  have h := (mem_chunk s ci ((rChunk s ci).emb z)).mp (by rw [← set_rChunk]; exact (rChunk s ci).toLoadRect.idx_mem z)
  exact h.1

theorem two_slot0 (c : Dev nD) (b : Bool) (ci : Fin 8) (z : S1x1x64x512.Idx) :
    two m c b ((rChunk 0 ci).emb z) = own m b c ((rChunk 0 ci).emb z) := by
  unfold two; exact if_pos (chunk_slot 0 ci z)
theorem two_slot1 (c : Dev nD) (b : Bool) (ci : Fin 8) (z : S1x1x64x512.Idx) :
    two m c b ((rChunk 1 ci).emb z) = own m b (src c b) ((rChunk 1 ci).emb z) := by
  unfold two; exact if_neg (by rw [chunk_slot]; decide)

/-- Along the second axis. -/
theorem lands_y (c : Dev nD) (ci : Fin 8) : Lands 0 ci (two m c (zb c)) (two m (yp c) (zb (yp c))) := by
  intro z
  rw [two_slot0, two_slot1, own_chunk m _ _ 1 0]
  unfold src; rw [if_pos rfl, yp_yp, zb_yp]
/-- Along the third. -/
theorem lands_z (c : Dev nD) (ci : Fin 8) : Lands 1 ci (two m c (zb c)) (two m (zp c) (!zb (zp c))) := by
  intro z
  rw [two_slot1, two_slot1, zb_zp, Bool.not_not]
  unfold src; rw [if_pos rfl, if_neg (by rw [zb_zp]; cases zb c <;> decide), zp_zp]

end Cert.KernelIdeal
-- ==== Proof.Steps.lean ====
/- One chunk's exchange, step by step: what a device holds for the chunk at each stage, and that each statement of the
   exchange takes it from one stage to the next. -/
module

public import proofs.«01_k».proof.Proof.Moves

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program `e` on device `c` reaches `Q`. -/
abbrev WP (c : Dev nD) (e : PG F) (Q : PUnit → sProp 𝕄) : sProp 𝕄 :=
  wp frame (wpE (defs₀ (F := F)) 𝒱₀ (c : Thread nD τ) none) Set.univ e Q

variable (K : Dev nD × SemLoc sig → ℕ)

/-- Every cell's invariant, and that every cell has reached its round. -/
def records : sProp 𝕄 :=
  iprop((bigSep Finset.univ fun x : Dev nD × SemLoc sig => cellInv ER (Rd m) (K x) (cell x.1 x.2))
    ∗ bigSep Finset.univ fun x : Dev nD × SemLoc sig => reached ER (cell x.1 x.2) 0)

instance records_persistent : BI.Persistent (records m K) := by unfold records; infer_instance

theorem inv_of (c : Dev nD) (s : SemLoc sig) : records m K ⊢ cellInv ER (Rd m) (K (c, s)) (cell c s) := by
  unfold records
  exact (sep_mono_left (bigSep_elim (Φ := fun x : Dev nD × SemLoc sig => (cellInv ER (Rd m) (K x) (cell x.1 x.2) : sProp 𝕄))
    (Finset.mem_univ (c, s)))).trans (by iintro ⟨H, -⟩; iexact H)
theorem reached_of (c : Dev nD) (s : SemLoc sig) : records m K ⊢ reached ER (cell c s) 0 := by
  unfold records
  exact (sep_mono_right (bigSep_elim (Φ := fun x : Dev nD × SemLoc sig => (reached ER (cell x.1 x.2) 0 : sProp 𝕄))
    (Finset.mem_univ (c, s)))).trans (by iintro ⟨-, H⟩; iexact H)

/-- The token that pays the transfer cell `k` of device `c`; the cell's position; its credit. -/
abbrev tok (c : Dev nD) (k : DmaSem sig) : sProp 𝕄 := dutyTok ER (dcell c k) 0 false
abbrev pos (c : Dev nD) (s : SemLoc sig) : sProp 𝕄 := atPos ER (cell c s) 0 ∅ 0
abbrev crd (c : Dev nD) (k : DmaSem sig) : sProp 𝕄 := cred (tallyAt (dcell c k) () (dmaAmt k))
abbrev zero (c : Dev nD) (k : DmaSem sig) : sProp 𝕄 := semVal (dcell c k) 0

/-- Device `c` owes `O`. -/
def ow (c : Dev nD) (O : CellTallies nD τ sig Unit) : sProp 𝕄 := iprop(∃ W, owes (c : Thread nD τ) O W)

/-- A wait for all that the transfer cell `k` is to receive: what it delivers, and the cell closed at zero. -/
theorem wait_dma (c : Dev nD) (k : DmaSem sig) {sp sp' : Space} {s s' : Shape} {e e' : EltTy}
    {a : Memref sig .tc sp' s' e'} {d : Memref sig .tc sp s e} {ha : a.view.WordExact} {hd : d.view.WordExact}
    (hN : d.view.dmaCredit = dmaAmt k) {P : sProp 𝕄} (hP : dmaPay m c k = P) (O : CellTallies nD τ sig Unit)
    (hmay : (levAts L lv : sProp 𝕄) ⊢ MayWait (c : Thread nD τ) (.dma k) () O) (kk : PG F) (Q : PUnit → sProp 𝕄) :
    iprop(records m K ∗ levAts L lv ∗ crd c k ∗ pos c (.dma k) ∗ ow c O
        ∗ ((zero c k ∗ P ∗ ow c O) -∗ WP c kk Q))
      ⊢ WP c (.op (.waitDma2 k a d ha hd) fun _ => kk) Q := by
  subst hP
  unfold ow
  iintro ⟨#HR, #Hlev, Hcr, Hat, ⟨%W, HO⟩, Hk⟩
  ihave #HI := (inv_of m K c (.dma k)) $$ HR
  iapply (Rounds.wp_wait_rest_token 𝒱₀ ER (Rd m) (c : Thread nD τ) none (κ := K (c, .dma k))
      (wpE_waitDma2_eq 𝒱₀ (c : Thread nD τ) none Set.univ) (Set.mem_univ _) () (O := O) (W := W) (R := 0) (m := 0) (T := ∅)
      (by rw [Nat.zero_add, expect_dma, hN])) $$ [Hcr HO Hat]
  · isplitr; · iexact HI
    isplitl [Hcr]; · rw [hN]; iexact Hcr
    isplitl [HO]; · iexact HO
    isplitr; · iapply hmay; iexact Hlev
    iexact Hat
  iintro ⟨HO, Hat, -, Hpay⟩
  ihave Hp := (Entails.of_eq (rest_dma m c k)) $$ Hpay
  imod (Rounds.cell_close ER (Rd m) (Set.mem_univ (K (c, .dma k))) (fun h => h) (R := 0 + 1) (duties_later m (dcell c k))) $$ [Hat] with Hz
  · isplitr; · iexact HI
    iexact Hat
  iapply Hk
  isplitl [Hz]; · iexact Hz
  isplitl [Hp]; · iexact Hp
  iexists _; iexact HO

/-- What a chunk's transfer takes and gives: the source's share, the destination, what is owed, and both cells' tokens;
    the source cell's credit. -/
theorem send_raw (c p : Dev nD) (b : Bool) (s : Fin 2) (ci : Fin 8) (sS sR : DmaSem sig) {fs fd g : Two F} (hl : Lands s ci fs g)
    (eS : dmaAmt sS = nC) (eR : dmaAmt sR = nC)
    (h₁ : pts c b (sChunk s ci) fullShare.left fs ⊢ dmaPay m c sS) (h₂ : pts p b (sChunk 1 ci) fullShare g ⊢ dmaPay m p sR)
    (O : CellTallies nD τ sig Unit) (W : Waits sig Unit) (kk : PG F) (Q : PUnit → sProp 𝕄)
    (hsem : DmaTarget.Typed .vmem (.dma sR) (.remote (p : Thread nD τ) (mChunk (buf b) 1 ci) (.dma sS))) :
    iprop(cellInv ER (Rd m) (K (c, .dma sS)) (dcell c sS) ∗ cellInv ER (Rd m) (K (p, .dma sR)) (dcell p sR)
        ∗ pts c b (sChunk s ci) fullShare.left fs ∗ pts p b (sChunk 1 ci) fullShare fd
        ∗ owes (c : Thread nD τ) (O + tallyAt (dcell p sR) () nC) W
        ∗ dutyTok ER (dcell c sS) 0 false ∗ reached ER (dcell c sS) 0
        ∗ dutyTok ER (dcell p sR) 0 false ∗ reached ER (dcell p sR) 0)
      ⊢ iprop(((cred (tallyAt (dcell c sS) () nC) ∗ owes (c : Thread nD τ) O W) -∗ WP c kk Q)
          -∗ WP c (.op (.enqueueDma (mChunk (buf b) s ci) (.remote (p : Thread nD τ) (mChunk (buf b) 1 ci) (.dma sS)) (.dma sR)
            (wx_chunk b s ci) (wx_chunk b 1 ci) hsem) fun _ => kk) Q) := by
  cases b
  · have h₂ := (Entails.of_eq (pointsTo_congr (ℓ := kf.view.loc (p : Thread nD τ)) (q := fullShare) (land_chunk hl (fd := fd)))).trans h₂
    dsimp only [pts] at h₁ h₂ ⊢
    rw [← set_mChunk] at h₁ h₂
    rw [← set_mChunk, ← set_mChunk]
    have hN : (mChunk (buf false) 1 ci).view.amount (.dma sR) = nC := credit_chunk false 1 ci
    exact Rounds.wp_send_pointsTo 𝒱₀ ER (Rd m) (c : Thread nD τ) none (c' := (p : Thread nD τ)) (src := mChunk (buf false) s ci) (dst := mChunk (buf false) 1 ci)
      (sS := .dma sS) (sem := .dma sR) (κ₁ := K (c, .dma sS)) (κ₂ := K (p, .dma sR))
      (r₁ := 0) (r₂ := 0) (d₁ := false) (d₂ := false) (fd := fd) (fs := fs) (q := fullShare.left) (k := fun _ => kk) (Q := Q)
        (hsrc := wx_chunk _ s ci) (hdst := wx_chunk _ 1 ci) (hsem := hsem) (Es := Set.univ) (defs := defs₀ (F := F))
      (by rw [duties_dma]; exact Finset.mem_singleton_self _) (by rw [duties_dma]; exact Finset.mem_singleton_self _)
      () () nC hN eS eR O rfl (W := W) h₁ h₂
  · have h₂ := (Entails.of_eq (pointsTo_congr (ℓ := vf.view.loc (p : Thread nD τ)) (q := fullShare) (land_chunk' hl (fd := fd)))).trans h₂
    dsimp only [pts] at h₁ h₂ ⊢
    rw [← set_mChunk'] at h₁ h₂
    rw [← set_mChunk', ← set_mChunk']
    have hN : (mChunk (buf true) 1 ci).view.amount (.dma sR) = nC := credit_chunk true 1 ci
    exact Rounds.wp_send_pointsTo 𝒱₀ ER (Rd m) (c : Thread nD τ) none (c' := (p : Thread nD τ)) (src := mChunk (buf true) s ci) (dst := mChunk (buf true) 1 ci)
      (sS := .dma sS) (sem := .dma sR) (κ₁ := K (c, .dma sS)) (κ₂ := K (p, .dma sR))
      (r₁ := 0) (r₂ := 0) (d₁ := false) (d₂ := false) (fd := fd) (fs := fs) (q := fullShare.left) (k := fun _ => kk) (Q := Q)
        (hsrc := wx_chunk _ s ci) (hdst := wx_chunk _ 1 ci) (hsem := hsem) (Es := Set.univ) (defs := defs₀ (F := F))
      (by rw [duties_dma]; exact Finset.mem_singleton_self _) (by rw [duties_dma]; exact Finset.mem_singleton_self _)
      () () nC hN eS eR O rfl (W := W) h₁ h₂

/-- A chunk's transfer from slot `s` of the device to slot 1 of the device `p`. -/
theorem send_step (c p : Dev nD) (b : Bool) (s : Fin 2) (ci : Fin 8) (sS sR : DmaSem sig) {fs fd g : Two F} (hl : Lands s ci fs g)
    (eS : dmaAmt sS = nC) (eR : dmaAmt sR = nC)
    (h₁ : pts c b (sChunk s ci) fullShare.left fs ⊢ dmaPay m c sS) (h₂ : pts p b (sChunk 1 ci) fullShare g ⊢ dmaPay m p sR)
    (O : CellTallies nD τ sig Unit) (kk : PG F) (Q : PUnit → sProp 𝕄)
    (hsem : DmaTarget.Typed .vmem (.dma sR) (.remote (p : Thread nD τ) (mChunk (buf b) 1 ci) (.dma sS))) :
    iprop(records m K ∗ pts c b (sChunk s ci) fullShare.left fs ∗ pts p b (sChunk 1 ci) fullShare fd
        ∗ tok c sS ∗ tok p sR ∗ ow c (O + tallyAt (dcell p sR) () nC)
        ∗ ((crd c sS ∗ ow c O) -∗ WP c kk Q))
      ⊢ WP c (.op (.enqueueDma (mChunk (buf b) s ci) (.remote (p : Thread nD τ) (mChunk (buf b) 1 ci) (.dma sS)) (.dma sR)
            (wx_chunk b s ci) (wx_chunk b 1 ci) hsem) fun _ => kk) Q := by
  unfold ow crd
  rw [eS]
  iintro ⟨#HR, Hs, Hd, Ht₁, Ht₂, ⟨%W, HO⟩, Hk⟩
  ihave #HI₁ := (inv_of m K c (.dma sS)) $$ HR
  ihave #HI₂ := (inv_of m K p (.dma sR)) $$ HR
  ihave #Hr₁ := (reached_of m K c (.dma sS)) $$ HR
  ihave #Hr₂ := (reached_of m K p (.dma sR)) $$ HR
  iapply (send_raw m K c p b s ci sS sR hl eS eR h₁ h₂ O W kk Q hsem (fd := fd)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists _; iexact HO

/-! ## A chunk's stages -/

/-- Before any transfer: the chunk of the device's own slot 0 (a half share); the two neighbours' slot-1 chunks to be
    written; the four tokens to pay; the four own cells' positions; the credits of the two arrivals. -/
def St0 (c : Dev nD) (ci : Fin 8) : sProp 𝕄 :=
  iprop(pts c (zb c) (sChunk 0 ci) fullShare.left (two m c (zb c))
    ∗ (∃ f, pts (yp c) (zb c) (sChunk 1 ci) fullShare f) ∗ (∃ f, pts (zp c) (zb c) (sChunk 1 ci) fullShare f)
    ∗ tok c (ysend ci) ∗ tok (yp c) (yin ci) ∗ tok c (zsend ci) ∗ tok (zp c) (zin ci)
    ∗ pos c (.dma (ysend ci)) ∗ pos c (.dma (yin ci)) ∗ pos c (.dma (zsend ci)) ∗ pos c (.dma (zin ci))
    ∗ crd c (yin ci) ∗ crd c (zin ci))
/-- Its transfer along the second axis in flight. -/
def St1 (c : Dev nD) (ci : Fin 8) : sProp 𝕄 :=
  iprop((∃ f, pts (zp c) (zb c) (sChunk 1 ci) fullShare f)
    ∗ tok c (zsend ci) ∗ tok (zp c) (zin ci)
    ∗ pos c (.dma (ysend ci)) ∗ pos c (.dma (yin ci)) ∗ pos c (.dma (zsend ci)) ∗ pos c (.dma (zin ci))
    ∗ crd c (yin ci) ∗ crd c (zin ci) ∗ crd c (ysend ci))
/-- The neighbour's chunk received and passed on. -/
def St2 (c : Dev nD) (ci : Fin 8) : sProp 𝕄 :=
  iprop(pts c (zb c) (sChunk 1 ci) fullShare.right (two m c (zb c))
    ∗ zero c (yin ci) ∗ pos c (.dma (ysend ci)) ∗ pos c (.dma (zsend ci)) ∗ pos c (.dma (zin ci))
    ∗ crd c (zin ci) ∗ crd c (ysend ci) ∗ crd c (zsend ci))
/-- The other buffer's chunk received too; what the heads read of slot 1 (`rightPc`) set apart. -/
def St3 (c : Dev nD) (ci : Fin 8) : sProp 𝕄 :=
  iprop(pts c (!zb c) (sChunk 1 ci) fullShare.left (two m c (!zb c))
    ∗ zero c (yin ci) ∗ zero c (zin ci) ∗ pos c (.dma (ysend ci)) ∗ pos c (.dma (zsend ci))
    ∗ crd c (ysend ci) ∗ crd c (zsend ci))
def rightPc (c : Dev nD) (ci : Fin 8) : sProp 𝕄 :=
  iprop(pts c false (sChunk 1 ci) fullShare.right (two m c false) ∗ pts c true (sChunk 1 ci) fullShare.right (two m c true))
/-- Everything back. -/
def St4 (c : Dev nD) (ci : Fin 8) : sProp 𝕄 :=
  iprop((pts c false (sChunk 1 ci) fullShare.left (two m c false) ∗ pts c true (sChunk 1 ci) fullShare.left (two m c true))
    ∗ pts c (zb c) (sChunk 0 ci) fullShare.left (two m c (zb c))
    ∗ zero c (ysend ci) ∗ zero c (yin ci) ∗ zero c (zsend ci) ∗ zero c (zin ci))

theorem ySend_step (c : Dev nD) (ci : Fin 8) (kk : PG F) (Q : PUnit → sProp 𝕄) :
    iprop(records m K ∗ St0 m c ci ∗ ow c (oZ c 0 + oY c ci.val)
        ∗ ((St1 c ci ∗ ow c (oZ c 0 + oY c (ci.val + 1))) -∗ WP c kk Q))
      ⊢ WP c (ySend (zb c) (yp c) ci kk) Q := by
  unfold St0 St1 ySend
  iintro ⟨#HR, ⟨Hs, ⟨%fd, Hd⟩, Hz, Ht₁, Ht₂, Ht₃, Ht₄, Hp₁, Hp₂, Hp₃, Hp₄, Hc₁, Hc₂⟩, HO, Hk⟩
  rw [oY_peel, ← add_assoc]
  iapply (send_step m K c (yp c) (zb c) 0 ci (ysend ci) (yin ci) (lands_y m c ci) (amt_ysend ci) (amt_yin ci)
    (by rw [pay_ysend]; exact BI.Entails.refl _) (by rw [pay_yin]; unfold yinPay; rw [zb_yp]) (oZ c 0 + oY c (ci.val + 1)) kk Q _ (fd := fd))
  isplitr; · iexact HR
  isplitl [Hs]; · iexact Hs
  isplitl [Hd]; · iexact Hd
  isplitl [Ht₁]; · iexact Ht₁
  isplitl [Ht₂]; · iexact Ht₂
  isplitl [HO]; · iexact HO
  iintro ⟨Hc, HO⟩
  iapply Hk
  isplitr [HO]
  · iframe Hz Ht₃ Ht₄ Hp₁ Hp₂ Hp₃ Hp₄ Hc₁ Hc₂ Hc
  iexact HO

theorem service_step (c : Dev nD) (ci : Fin 8) (kk : PG F) (Q : PUnit → sProp 𝕄) :
    iprop(records m K ∗ levAts L lv ∗ St1 c ci ∗ ow c (oZ c ci.val)
        ∗ ((St2 m c ci ∗ ow c (oZ c (ci.val + 1))) -∗ WP c kk Q))
      ⊢ WP c (service c ci kk) Q := by
  rw [oZ_peel]
  unfold St1 St2 service chunkWait zSend
  iintro ⟨#HR, #Hlev, ⟨⟨%fd, Hd⟩, Ht₃, Ht₄, Hp₁, Hp₂, Hp₃, Hp₄, Hc₁, Hc₂, Hc₃⟩, HO, Hk⟩
  iapply (wait_dma m K c (yin ci) ((credit_chunk false 1 ci).trans (amt_yin ci).symm) ((pay_yin m c ci).trans pts_halves)
    (oZ c (ci.val + 1) + tallyAt (dcell (zp c) (zin ci)) () nC) (oZ_peel c ci ▸ mayWait_yin c ci _))
  isplitr; · iexact HR
  isplitr; · iexact Hlev
  isplitl [Hc₁]; · iexact Hc₁
  isplitl [Hp₂]; · iexact Hp₂
  isplitl [HO]; · iexact HO
  iintro ⟨Hz, ⟨Hl, Hr⟩, HO⟩
  iapply (send_step m K c (zp c) (zb c) 1 ci (zsend ci) (zin ci) (lands_z m c ci) (amt_zsend ci) (amt_zin ci)
    (by rw [pay_zsend]; exact BI.Entails.refl _) (by rw [pay_zin]; unfold zinPay; rw [zb_zp, Bool.not_not]) (oZ c (ci.val + 1)) kk Q _ (fd := fd))
  isplitr; · iexact HR
  isplitl [Hl]; · iexact Hl
  isplitl [Hd]; · iexact Hd
  isplitl [Ht₃]; · iexact Ht₃
  isplitl [Ht₄]; · iexact Ht₄
  isplitl [HO]; · iexact HO
  iintro ⟨Hc, HO⟩
  iapply Hk
  isplitr [HO]
  · iframe Hr Hz Hp₁ Hp₃ Hp₄ Hc₂ Hc₃ Hc
  iexact HO

theorem mayWait_zero (c : Dev nD) (s : SemLoc sig) : (levAts L lv : sProp 𝕄) ⊢ MayWait (c : Thread nD τ) s () 0 := by
  rw [MayWait_zero]; iintro -; iempintro

theorem zWait_step (c : Dev nD) (ci : Fin 8) (kk : PG F) (Q : PUnit → sProp 𝕄) :
    iprop(records m K ∗ levAts L lv ∗ St2 m c ci ∗ ow c 0
        ∗ ((St3 m c ci ∗ rightPc m c ci ∗ ow c 0) -∗ WP c kk Q))
      ⊢ WP c (zWait ci kk) Q := by
  unfold St2 St3 zWait chunkWait
  iintro ⟨#HR, #Hlev, ⟨Hr, Hz, Hp₁, Hp₃, Hp₄, Hc₂, Hc₃, Hc⟩, HO, Hk⟩
  iapply (wait_dma m K c (zin ci) ((credit_chunk false 1 ci).trans (amt_zin ci).symm) ((pay_zin m c ci).trans pts_halves) 0 (mayWait_zero c _))
  isplitr; · iexact HR
  isplitr; · iexact Hlev
  isplitl [Hc₂]; · iexact Hc₂
  isplitl [Hp₄]; · iexact Hp₄
  isplitl [HO]; · iexact HO
  iintro ⟨Hz', ⟨Hl, Hr'⟩, HO⟩
  iapply Hk
  isplitl [Hl Hz Hz' Hp₁ Hp₃ Hc₃ Hc]
  · iframe Hl Hz Hz' Hp₁ Hp₃ Hc₃ Hc
  isplitr [HO]
  · unfold rightPc
    iapply (Entails.of_eq (pts_both m c))
    isplitl [Hr] <;> iassumption
  iexact HO

theorem drain_step (c : Dev nD) (ci : Fin 8) (kk : PG F) (Q : PUnit → sProp 𝕄) :
    iprop(records m K ∗ levAts L lv ∗ St3 m c ci ∗ ow c 0
        ∗ ((St4 m c ci ∗ ow c 0) -∗ WP c kk Q))
      ⊢ WP c (drain ci kk) Q := by
  unfold St3 St4 drain chunkWait
  iintro ⟨#HR, #Hlev, ⟨Hl, Hz₂, Hz₄, Hp₁, Hp₃, Hc₁, Hc₃⟩, HO, Hk⟩
  iapply (wait_dma m K c (ysend ci) ((credit_chunk false 0 ci).trans (amt_ysend ci).symm) (P := pts c (zb c) (sChunk 0 ci) fullShare.left (two m c (zb c))) (pay_ysend m c ci) 0 (mayWait_zero c _))
  isplitr; · iexact HR
  isplitr; · iexact Hlev
  isplitl [Hc₁]; · iexact Hc₁
  isplitl [Hp₁]; · iexact Hp₁
  isplitl [HO]; · iexact HO
  iintro ⟨Hz₁, Hpay, HO⟩
  iapply (wait_dma m K c (zsend ci) ((credit_chunk false 1 ci).trans (amt_zsend ci).symm) (P := pts c (zb c) (sChunk 1 ci) fullShare.left (two m c (zb c))) (pay_zsend m c ci) 0 (mayWait_zero c _))
  isplitr; · iexact HR
  isplitr; · iexact Hlev
  isplitl [Hc₃]; · iexact Hc₃
  isplitl [Hp₃]; · iexact Hp₃
  isplitl [HO]; · iexact HO
  iintro ⟨Hz₃, Hpay', HO⟩
  iapply Hk
  isplitr [HO]
  · isplitl [Hl Hpay']
    · iapply (Entails.of_eq (pts_both m c))
      isplitl [Hpay'] <;> iassumption
    iframe Hpay Hz₁ Hz₂ Hz₃ Hz₄
  iexact HO

end Cert.KernelIdeal
-- ==== Proof.Heads.lean ====
/- One head at a time: what the buffers hold before and after each head, over the first half of the keys and values and
   over the second. -/
module

public import proofs.«01_k».proof.Proof.Steps

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (K : Dev nD × SemLoc sig → ℕ)

/-! ## What the heads read and write -/

/-- The scaled and rounded queries. -/
def QB (c : Dev nD) : sProp 𝕄 := ((qb.view.loc (c : Thread nD τ)) ↦{fullShare} qs c (argQ m c))
/-- The share of the elements `S` of both two-slot buffers that the heads read. -/
def KV (c : Dev nD) (S : Finset S2x2x256x512.Idx) : sProp 𝕄 :=
  iprop(pts c false S fullShare.right (two m c false) ∗ pts c true S fullShare.right (two m c true))
/-- The weighted sums of the first half, those of the heads before `n` written. -/
def O1 (c : Dev nD) (n : ℕ) : sProp 𝕄 :=
  iprop(∃ f : Arr F, ⌜∀ i, (hd i).val < n → f i = o1 m c i⌝ ∗ ((oS.view.loc (c : Thread nD τ)) ↦{fullShare} f))
/-- The row sums of the first half, those of the heads before `n` written. -/
def L1 (c : Dev nD) (n : ℕ) : sProp 𝕄 :=
  iprop(∃ f : S2x256x8.Idx → Elt F .f32, ⌜∀ i, (hdL i).val < n → f i = l1 m c i⌝ ∗ ((lS.view.loc (c : Thread nD τ)) ↦{fullShare} f))
/-- Batch entry `bi` of the staged result, the heads before `n` written. -/
def OO (c : Dev nD) (bi : Fin 2) (n : ℕ) : sProp 𝕄 :=
  iprop(∃ f : Arr F, ⌜∀ i ∈ sHalf bi, (hd i).val < n → f i = out m c i⌝ ∗ ((sO.view.loc (c : Thread nD τ)) ↦[sHalf bi]{fullShare} f))

/-! ## A head's store -/

theorem set_oS (n : Fin 16) : (oS.access (rQ n)).set = (rQ n).set := View.set_slice_whole cc0_scratch7 (rQ n)
theorem set_sO (n : Fin 16) : (sO.access (rQ n)).set = (rQ n).set := View.set_slice_whole cc0_scratch3 (rQ n)
theorem set_lS (n : Fin 16) : (lS.access (rL n)).set = (rL n).set := View.set_slice_whole cc0_scratch8 (rL n)

/-- After head `n`'s store of `w`, the elements of the heads up to `n` hold `g`. -/
theorem wrote_oS {n : Fin 16} {f g : Arr F} {w : S1x256x64.Idx → Elt F .f32} (h : ∀ i, (hd i).val < n.val → f i = g i)
    (hw : ∀ j, w j = g ((rQ n).emb j)) :
    ∀ i, (hd i).val < n.val + 1 → (oS.access (rQ n)).write (Elt F) f w Finset.univ i = g i := by
  intro i hi
  by_cases hm : i ∈ (rQ n).set
  · have hm' : i ∈ (oS.access (rQ n)).set := by rw [set_oS]; exact hm
    obtain ⟨j, -, rfl⟩ := Finset.mem_map.mp hm'
    exact (View.write_emb_of_mem (v := oS.access (rQ n)) _ _ (Finset.mem_univ j)).trans (hw j)
  · have hn : (hd i).val ≠ n.val := fun e => hm ((mem_rQ n i).mpr (Fin.ext e))
    refine (View.write_of_not_mem (v := oS.access (rQ n)) _ _ _ fun hx => hm ?_).trans (h i (by omega))
    exact (set_oS n) ▸ hx
theorem wrote_sO {S : Finset S2x256x512.Idx} {n : Fin 16} {f g : Arr F} {w : S1x256x64.Idx → Elt F .f32}
    (h : ∀ i ∈ S, (hd i).val < n.val → f i = g i) (hw : ∀ j, w j = g ((rQ n).emb j)) :
    ∀ i ∈ S, (hd i).val < n.val + 1 → (sO.access (rQ n)).write (Elt F) f w Finset.univ i = g i := by
  intro i hS hi
  by_cases hm : i ∈ (rQ n).set
  · have hm' : i ∈ (sO.access (rQ n)).set := by rw [set_sO]; exact hm
    obtain ⟨j, -, rfl⟩ := Finset.mem_map.mp hm'
    exact (View.write_emb_of_mem (v := sO.access (rQ n)) _ _ (Finset.mem_univ j)).trans (hw j)
  · have hn : (hd i).val ≠ n.val := fun e => hm ((mem_rQ n i).mpr (Fin.ext e))
    refine (View.write_of_not_mem (v := sO.access (rQ n)) _ _ _ fun hx => hm ?_).trans (h i hS (by omega))
    exact (set_sO n) ▸ hx
theorem wrote_lS {n : Fin 16} {f g : S2x256x8.Idx → Elt F .f32} {w : S1x256x1.Idx → Elt F .f32}
    (h : ∀ i, (hdL i).val < n.val → f i = g i) (hw : ∀ j, w j = g ((rL n).emb j)) :
    ∀ i, (hdL i).val < n.val + 1 → (lS.access (rL n)).write (Elt F) f w Finset.univ i = g i := by
  intro i hi
  by_cases hm : i ∈ (rL n).set
  · have hm' : i ∈ (lS.access (rL n)).set := by rw [set_lS]; exact hm
    obtain ⟨j, -, rfl⟩ := Finset.mem_map.mp hm'
    exact (View.write_emb_of_mem (v := lS.access (rL n)) _ _ (Finset.mem_univ j)).trans (hw j)
  · have hn : (hdL i).val ≠ n.val := fun e => hm ((mem_rL n i).mpr (Fin.ext e))
    refine (View.write_of_not_mem (v := lS.access (rL n)) _ _ _ fun hx => hm ?_).trans (h i (by omega))
    exact (set_lS n) ▸ hx

theorem o1_emb (c : Dev nD) (n : Fin 16) (j : S1x256x64.Idx) :
    k0_pay7 (hq m c n) (hk m c 0 n) (hv m c 0 n) j = o1 m c ((rQ n).emb j) := by
  unfold o1; rw [emb_rQ_hd, emb_rQ_lc]
theorem l1_emb (c : Dev nD) (n : Fin 16) (j : S1x256x1.Idx) :
    k0_pay8 (hq m c n) (hk m c 0 n) j = l1 m c ((rL n).emb j) := by
  unfold l1; rw [emb_rL_hd, emb_rL_lc]
theorem out_emb (c : Dev nD) (n : Fin 16) (j : S1x256x64.Idx) :
    outPay (hq m c n) (hk m c 1 n) (hv m c 1 n) (k0_pay8 (hq m c n) (hk m c 0 n)) (k0_pay7 (hq m c n) (hk m c 0 n) (hv m c 0 n)) j
      = out m c ((rQ n).emb j) := by
  unfold out; rw [emb_rQ_hd, emb_rQ_lc]

theorem rKV_sub (s : Fin 2) (n : Fin 16) (bi : Fin 2) (h : n.val / 8 = bi.val) : (rKV s n).set ⊆ sWin s bi := fun i hi => by
  rw [mem_rKV] at hi; rw [mem_win]; exact ⟨hi.1, hi.2.1.trans h⟩
theorem rKV_sub_slot (s : Fin 2) (n : Fin 16) : (rKV s n).set ⊆ sSlot s := fun i hi => by
  rw [mem_rKV] at hi; rw [mem_slot]; exact hi.1
theorem rQ_sub (n : Fin 16) (bi : Fin 2) (h : n.val / 8 = bi.val) : (rQ n).set ⊆ sHalf bi := fun i hi => by
  rw [mem_rQ] at hi; rw [mem_half, ← h, ← hi]
  have hb := bounds3 i
  unfold hd; dsimp only; omega

theorem on_q (M : Finset S2x256x512.Idx) : qb.view.setOn M = M := by
  exact (Finset.map_eq_image _ _).trans (Finset.image_id)
theorem on_kf (M : Finset S2x2x256x512.Idx) : kf.view.setOn M = M := by
  exact (Finset.map_eq_image _ _).trans (Finset.image_id)
theorem on_vf (M : Finset S2x2x256x512.Idx) : vf.view.setOn M = M := by
  exact (Finset.map_eq_image _ _).trans (Finset.image_id)
theorem on_sO (M : Finset S2x256x512.Idx) : sO.view.setOn M = M := by
  exact (Finset.map_eq_image _ _).trans (Finset.image_id)

/-! ## The heads -/

/-- A head over the first half. -/
theorem head1_step (c : Dev nD) (n : Fin 16) (kk : PG F) (Q : PUnit → sProp 𝕄) :
    iprop((QB m c ∗ KV m c (sSlot 0) ∗ O1 m c n.val ∗ L1 m c n.val)
        ∗ ((QB m c ∗ KV m c (sSlot 0) ∗ O1 m c (n.val + 1) ∗ L1 m c (n.val + 1)) -∗ WP c kk Q))
      ⊢ WP c (head1 n kk) Q := by
  unfold head1 QB KV O1 L1
  dsimp only [pts]
  iintro ⟨⟨Hq, ⟨Hk, Hv⟩, ⟨%fo, %ho, Ho⟩, ⟨%fl, %hl, Hl⟩⟩, Hc⟩
  iapply (wp_load 𝒱₀ (c : Thread nD τ) none Set.univ (m := qb) (Finset.subset_univ _)) $$ Hq
  iintro Hq
  iapply (wp_load 𝒱₀ (c : Thread nD τ) none Set.univ (m := kf) (S := sSlot 0) (by rw [on_kf]; exact rKV_sub_slot 0 n)) $$ Hk
  iintro Hk
  iapply (wp_load 𝒱₀ (c : Thread nD τ) none Set.univ (m := vf) (S := sSlot 0) (by rw [on_vf]; exact rKV_sub_slot 0 n)) $$ Hv
  iintro Hv
  iapply (wp_load 𝒱₀ (c : Thread nD τ) none Set.univ (m := oS) (Finset.subset_univ _)) $$ Ho
  iintro Ho
  iapply (wp_store 𝒱₀ (c : Thread nD τ) none Set.univ (m := oS) (r := rQ n) (Finset.subset_univ _)) $$ Ho
  iintro Ho
  iapply (wp_load 𝒱₀ (c : Thread nD τ) none Set.univ (m := lS) (Finset.subset_univ _)) $$ Hl
  iintro Hl
  iapply (wp_store 𝒱₀ (c : Thread nD τ) none Set.univ (m := lS) (r := rL n) (Finset.subset_univ _)) $$ Hl
  iintro Hl
  iapply Hc
  isplitl [Hq]; · iexact Hq
  isplitl [Hk Hv]
  · isplitl [Hk] <;> iassumption
  isplitl [Ho]
  · iexists _
    isplitr
    · ipureintro; exact wrote_oS (n := n) ho (o1_emb m c n)
    iexact Ho
  · iexists _
    isplitr
    · ipureintro; exact wrote_lS (n := n) hl (l1_emb m c n)
    iexact Hl

/-- A head over the second half, and its result. -/
theorem head2_step (c : Dev nD) (bi : Fin 2) (n : Fin 16) (hn : n.val / 8 = bi.val) (kk : PG F) (Q : PUnit → sProp 𝕄) :
    iprop((QB m c ∗ KV m c (sWin 1 bi) ∗ O1 m c 16 ∗ L1 m c 16 ∗ OO m c bi n.val)
        ∗ ((QB m c ∗ KV m c (sWin 1 bi) ∗ O1 m c 16 ∗ L1 m c 16 ∗ OO m c bi (n.val + 1)) -∗ WP c kk Q))
      ⊢ WP c (head2 n kk) Q := by
  unfold head2 QB KV O1 L1 OO
  dsimp only [pts]
  iintro ⟨⟨Hq, ⟨Hk, Hv⟩, ⟨%fo, %ho, Ho⟩, ⟨%fl, %hl, Hl⟩, ⟨%fs, %hs, Hs⟩⟩, Hc⟩
  iapply (wp_load 𝒱₀ (c : Thread nD τ) none Set.univ (m := qb) (Finset.subset_univ _)) $$ Hq
  iintro Hq
  iapply (wp_load 𝒱₀ (c : Thread nD τ) none Set.univ (m := kf) (S := sWin 1 bi) (by rw [on_kf]; exact rKV_sub 1 n bi hn)) $$ Hk
  iintro Hk
  iapply (wp_load 𝒱₀ (c : Thread nD τ) none Set.univ (m := vf) (S := sWin 1 bi) (by rw [on_vf]; exact rKV_sub 1 n bi hn)) $$ Hv
  iintro Hv
  iapply (wp_load 𝒱₀ (c : Thread nD τ) none Set.univ (m := lS) (Finset.subset_univ _)) $$ Hl
  iintro Hl
  iapply (wp_load 𝒱₀ (c : Thread nD τ) none Set.univ (m := oS) (Finset.subset_univ _)) $$ Ho
  iintro Ho
  iapply (wp_load 𝒱₀ (c : Thread nD τ) none Set.univ (m := sO) (S := sHalf bi) (by rw [on_sO]; exact rQ_sub n bi hn)) $$ Hs
  iintro Hs
  iapply (wp_store 𝒱₀ (c : Thread nD τ) none Set.univ (m := sO) (r := rQ n) (S := sHalf bi) (by
    rw [View.setOn_univ, set_sO]; exact rQ_sub n bi hn)) $$ Hs
  iintro Hs
  iapply Hc
  isplitl [Hq]; · iexact Hq
  isplitl [Hk Hv]
  · isplitl [Hk] <;> iassumption
  isplitl [Ho]
  · iexists _
    isplitr
    · ipureintro; exact ho
    iexact Ho
  isplitl [Hl]
  · iexists _
    isplitr
    · ipureintro; exact hl
    iexact Hl
  · iexists _
    isplitr
    · ipureintro
      refine wrote_sO (n := n) (w := outPay (hq m c n) (hk m c 1 n) (hv m c 1 n) (fun j => fl ((rL n).emb j)) (fun j => fo ((rQ n).emb j))) hs fun j => ?_
      refine Eq.trans ?_ (out_emb m c n j)
      exact congrFun (congr (congrArg (outPay (hq m c n) (hk m c 1 n) (hv m c 1 n))
        (funext fun j => (hl _ (hdL _).isLt).trans (l1_emb m c n j).symm))
        (funext fun j => (ho _ (hd _).isLt).trans (o1_emb m c n j).symm)) j
    iexact Hs

end Cert.KernelIdeal
-- ==== Proof.Local.lean ====
/- The statements outside the exchange of chunks: the three arrays staged and rounded into place, the two signals and the
   barrier, and the result copied out. -/
module

public import proofs.«01_k».proof.Proof.Heads

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (K : Dev nD × SemLoc sig → ℕ)

/-- A copy on the device itself: the cell's token is spent on what the copy leaves, and its credit comes back. -/
theorem copy_step (c : Dev nD) (k : DmaSem sig) {sp sp' : Space} {s : Shape} {e : EltTy}
    {a : Memref sig .tc sp s e} {d : Memref sig .tc sp' s e} {hsrc : a.view.WordExact} {hdst : d.view.WordExact}
    {hsem : DmaTarget.Typed (nD := nD) (τ := τ) (p := .tc) sp (.dma k) (.here d)}
    (hN : d.view.dmaCredit = dmaAmt k) {fs : Buf (Elt F) (a.view.loc (c : Thread nD τ))} {fd : Buf (Elt F) (d.view.loc (c : Thread nD τ))}
    (hpay : iprop((d.view.loc (c : Thread nD τ) ↦[d.view.set]{fullShare} (d.view.write (Elt F) fd (a.view.read (Elt F) fs) Finset.univ))
              ∗ (a.view.loc (c : Thread nD τ) ↦[a.view.set]{fullShare} fs)) ⊢ (dmaPay m c k : sProp 𝕄))
    (kk : PG F) (Q : PUnit → sProp 𝕄) :
    iprop(records m K ∗ (a.view.loc (c : Thread nD τ) ↦[a.view.set]{fullShare} fs)
        ∗ (d.view.loc (c : Thread nD τ) ↦[d.view.set]{fullShare} fd) ∗ tok c k ∗ (crd c k -∗ WP c kk Q))
      ⊢ WP c (.op (.enqueueDma a (.here d) (.dma k) hsrc hdst hsem) fun _ => kk) Q := by
  have hN : d.view.amount (.dma k) = dmaAmt k := hN
  iintro ⟨#HR, Ha, Hd, Ht, Hk⟩
  ihave #HI := (inv_of m K c (.dma k)) $$ HR
  ihave #Hr := (reached_of m K c (.dma k)) $$ HR
  iapply (Rounds.wp_copy_pointsTo 𝒱₀ ER (Rd m) (c : Thread nD τ) none (src := a) (dst := d) (sem := .dma k) (κ := K (c, .dma k))
    (r := 0) (d := false) (by rw [duties_dma]; exact Finset.mem_singleton_self _) () (dmaAmt k) hN (amount_dma m c k false) hpay
    (q := fullShare) (fs := fs) (fd := fd)) $$ [Ha Hd Ht]
  · isplitr; · iexact HI
    isplitl [Ha]; · iexact Ha
    isplitl [Hd]; · iexact Hd
    isplitl [Ht]; · iexact Ht
    iexact Hr
  iexact Hk

/-! ## Staging the arrays -/

/-- The array `j` at launch; on its way; arrived. -/
def In0 (c : Dev nD) (j : Fin 3) : sProp 𝕄 := iprop(tok c (insem j) ∗ pos c (.dma (insem j)) ∗ match j with
  | ⟨0, _⟩ => iprop((∃ f : Arr F, (sQ.view.loc (c : Thread nD τ)) ↦{fullShare} f) ∗ (hQ.view.loc (c : Thread nD τ) ↦{fullShare} argQ m c))
  | ⟨1, _⟩ => iprop((∃ f : Arr F, (sK.view.loc (c : Thread nD τ)) ↦{fullShare} f) ∗ (hK.view.loc (c : Thread nD τ) ↦{fullShare} argK m c))
  | ⟨2, _⟩ => iprop((∃ f : Arr F, (sV.view.loc (c : Thread nD τ)) ↦{fullShare} f) ∗ (hV.view.loc (c : Thread nD τ) ↦{fullShare} argV m c)))
def In1 (c : Dev nD) (j : Fin 3) : sProp 𝕄 := iprop(crd c (insem j) ∗ pos c (.dma (insem j)))
def In2 (c : Dev nD) (j : Fin 3) : sProp 𝕄 := iprop(zero c (insem j) ∗ inPay m c j)

theorem set_all (b : Ref sig .tc) : (Memref.whole b).view.set = Finset.univ := View.set_whole b

theorem inQ_step (c : Dev nD) {h₁ h₂ h₃} (kk : PG F) (Q : PUnit → sProp 𝕄) :
    iprop(records m K ∗ In0 m c 0 ∗ (In1 c 0 -∗ WP c kk Q))
      ⊢ WP c (.op (.enqueueDma hQ (.here sQ) (.dma (insem 0)) h₁ h₂ h₃) fun _ => kk) Q := by
  unfold In0 In1
  dsimp only
  iintro ⟨#HR, ⟨Ht, Hp, ⟨%f, Hs⟩, Ha⟩, Hk⟩
  iapply (copy_step m K c (insem 0) (a := hQ) (d := sQ) (amt_insem 0).symm (fs := argQ m c) (fd := f) (by
    rw [set_all, set_all, View.write_whole_univ, View.read_whole, pay_insem]; exact BI.Entails.refl _) kk Q)
  isplitr; · iexact HR
  rw [set_all, set_all]
  isplitl [Ha]; · iexact Ha
  isplitl [Hs]; · iexact Hs
  isplitl [Ht]; · iexact Ht
  iintro Hc
  iapply Hk
  isplitl [Hc] <;> iassumption

theorem inK_step (c : Dev nD) {h₁ h₂ h₃} (kk : PG F) (Q : PUnit → sProp 𝕄) :
    iprop(records m K ∗ In0 m c 1 ∗ (In1 c 1 -∗ WP c kk Q))
      ⊢ WP c (.op (.enqueueDma hK (.here sK) (.dma (insem 1)) h₁ h₂ h₃) fun _ => kk) Q := by
  unfold In0 In1
  dsimp only
  iintro ⟨#HR, ⟨Ht, Hp, ⟨%f, Hs⟩, Ha⟩, Hk⟩
  iapply (copy_step m K c (insem 1) (a := hK) (d := sK) (amt_insem 1).symm (fs := argK m c) (fd := f) (by
    rw [set_all, set_all, View.write_whole_univ, View.read_whole, pay_insem]; exact BI.Entails.refl _) kk Q)
  isplitr; · iexact HR
  rw [set_all, set_all]
  isplitl [Ha]; · iexact Ha
  isplitl [Hs]; · iexact Hs
  isplitl [Ht]; · iexact Ht
  iintro Hc
  iapply Hk
  isplitl [Hc] <;> iassumption

theorem inV_step (c : Dev nD) {h₁ h₂ h₃} (kk : PG F) (Q : PUnit → sProp 𝕄) :
    iprop(records m K ∗ In0 m c 2 ∗ (In1 c 2 -∗ WP c kk Q))
      ⊢ WP c (.op (.enqueueDma hV (.here sV) (.dma (insem 2)) h₁ h₂ h₃) fun _ => kk) Q := by
  unfold In0 In1
  dsimp only
  iintro ⟨#HR, ⟨Ht, Hp, ⟨%f, Hs⟩, Ha⟩, Hk⟩
  iapply (copy_step m K c (insem 2) (a := hV) (d := sV) (amt_insem 2).symm (fs := argV m c) (fd := f) (by
    rw [set_all, set_all, View.write_whole_univ, View.read_whole, pay_insem]; exact BI.Entails.refl _) kk Q)
  isplitr; · iexact HR
  rw [set_all, set_all]
  isplitl [Ha]; · iexact Ha
  isplitl [Hs]; · iexact Hs
  isplitl [Ht]; · iexact Ht
  iintro Hc
  iapply Hk
  isplitl [Hc] <;> iassumption

/-- The wait for a staged array, owing chunks only. -/
theorem inWait_step (c : Dev nD) (j : Fin 3) (n : ℕ) {sp sp' : Space} {s s' : Shape} {e e' : EltTy}
    {a : Memref sig .tc sp' s' e'} {d : Memref sig .tc sp s e} {ha : a.view.WordExact} {hd : d.view.WordExact}
    (hN : d.view.dmaCredit = nI) (kk : PG F) (Q : PUnit → sProp 𝕄) :
    iprop(records m K ∗ levAts L lv ∗ In1 c j ∗ ow c (oZ c 0 + oY c n)
        ∗ ((In2 m c j ∗ ow c (oZ c 0 + oY c n)) -∗ WP c kk Q))
      ⊢ WP c (.op (.waitDma2 (insem j) a d ha hd) fun _ => kk) Q := by
  unfold In1 In2
  iintro ⟨#HR, #Hlev, ⟨Hc, Hp⟩, HO, Hk⟩
  iapply (wait_dma m K c (insem j) (hN.trans (amt_insem j).symm) (pay_insem m c j) (oZ c 0 + oY c n) (mayWait_in c j n))
  isplitr; · iexact HR
  isplitr; · iexact Hlev
  isplitl [Hc]; · iexact Hc
  isplitl [Hp]; · iexact Hp
  isplitl [HO]; · iexact HO
  iintro ⟨Hz, Hpay, HO⟩
  iapply Hk
  isplitr [HO]
  · isplitl [Hz] <;> iassumption
  iexact HO

/-! ## The start: three copies, two signals -/

/-- Some contents in the elements `S` of both buffers: of the one the device sends from and of the other one. -/
theorem ex_both (c c' : Dev nD) (S : Finset S2x2x256x512.Idx) :
    (iprop((∃ f, pts c (zb c') S fullShare f) ∗ (∃ f, pts c (!zb c') S fullShare f)) : sProp 𝕄)
      = iprop((∃ f, pts c false S fullShare f) ∗ (∃ f, pts c true S fullShare f)) := by
  cases zb c'
  · rfl
  · exact eqv sep_comm

theorem start_step (c : Dev nD) (kk : PG F) (Q : PUnit → sProp 𝕄) :
    iprop(records m K ∗ (In0 m c 0 ∗ In0 m c 1 ∗ In0 m c 2)
        ∗ ((∃ f, pts c false (sSlot 1) fullShare f) ∗ (∃ f, pts c true (sSlot 1) fullShare f))
        ∗ (dutyTok ER (bcell (yp c)) 0 false ∗ dutyTok ER (bcell (zp c)) 0 true) ∗ ow c (oS0 c)
        ∗ (((In1 c 0 ∗ In1 c 1 ∗ In1 c 2) ∗ ow c (oZ c 0 + oY c 0)) -∗ WP c kk Q))
      ⊢ WP c (startP c kk) Q := by
  unfold startP ow
  iintro ⟨#HR, ⟨HQ, HK, HV⟩, Hslots, ⟨Hty, Htz⟩, ⟨%W, HO⟩, Hk⟩
  ihave Hs := (Entails.of_eq (ex_both (F := F) c c (sSlot 1)).symm) $$ Hslots
  icases Hs with ⟨Hy, Hz⟩
  ihave #HIy := (inv_of m K (yp c) (.reg barr)) $$ HR
  ihave #HIz := (inv_of m K (zp c) (.reg barr)) $$ HR
  ihave #Hry := (reached_of m K (yp c) (.reg barr)) $$ HR
  ihave #Hrz := (reached_of m K (zp c) (.reg barr)) $$ HR
  iapply (inK_step m K c)
  isplitr; · iexact HR
  isplitl [HK]; · iexact HK
  iintro HK
  iapply (inV_step m K c)
  isplitr; · iexact HR
  isplitl [HV]; · iexact HV
  iintro HV
  iapply (inQ_step m K c)
  isplitr; · iexact HR
  isplitl [HQ]; · iexact HQ
  iintro HQ
  unfold oS0
  iapply (Rounds.wp_signal 𝒱₀ ER (Rd m) (c : Thread nD τ) none (dst := (yp c : Thread nD τ)) (κ := K (yp c, .reg barr))
      (d := false) (by rw [duties_bar]; exact Finset.mem_univ _) (amount_bar m (yp c) false) () (oS1 c) rfl)
    $$ [HO Hty Hy]
  · isplitr; · iexact HIy
    isplitl [HO]; · iexact HO
    isplitl [Hty]; · iexact Hty
    isplitl [Hy]
    · rw [payload_bar]; unfold barPay; rw [if_neg Bool.false_ne_true, yp_yp, zb_yp]; iexact Hy
    iexact Hry
  iintro HO
  unfold oS1
  iapply (Rounds.wp_signal 𝒱₀ ER (Rd m) (c : Thread nD τ) none (dst := (zp c : Thread nD τ)) (κ := K (zp c, .reg barr))
      (d := true) (by rw [duties_bar]; exact Finset.mem_univ _) (amount_bar m (zp c) true) () (oS2 c) rfl)
    $$ [HO Htz Hz]
  · isplitr; · iexact HIz
    isplitl [HO]; · iexact HO
    isplitl [Htz]; · iexact Htz
    isplitl [Hz]
    · rw [payload_bar]; unfold barPay; rw [if_pos rfl, zp_zp, zb_zp]; iexact Hz
    iexact Hrz
  iintro HO
  iapply Hk
  isplitr [HO]
  · iframe HQ HK HV
  iexists W; unfold oS2; iexact HO

/-! ## The barrier -/

theorem rest_bar' (c : Dev nD) :
    bigSep ((Rd (F := F) m).duties (bcell c) 0 \ ∅) (fun d => (Rd (F := F) m).payload (bcell c) 0 d)
      = iprop((∃ f, pts (yp c) (zb c) (sSlot 1) fullShare f) ∗ (∃ f, pts (zp c) (zb c) (sSlot 1) fullShare f)) :=
  (rest_bar m c).trans (by unfold barPay; rw [if_neg Bool.false_ne_true, if_pos rfl])

/-- The barrier's wait: both neighbours' slots to write, and the cell closed at zero. -/
theorem bar_step (c : Dev nD) (kk : PG F) (Q : PUnit → sProp 𝕄) :
    iprop(records m K ∗ levAts L lv ∗ pos c (.reg barr) ∗ cred (tallyAt (bcell c) () 2) ∗ ow c (oZ c 0 + oY c 0)
        ∗ (((∃ f, pts (yp c) (zb c) (sSlot 1) fullShare f) ∗ (∃ f, pts (zp c) (zb c) (sSlot 1) fullShare f)
            ∗ semVal (bcell c) 0 ∗ ow c (oZ c 0 + oY c 0)) -∗ WP c kk Q))
      ⊢ WP c (.op (.semWait barr 2) fun _ => kk) Q := by
  unfold ow
  iintro ⟨#HR, #Hlev, Hat, Hc, ⟨%W, HO⟩, Hk⟩
  ihave #HI := (inv_of m K c (.reg barr)) $$ HR
  iapply (Rounds.wp_wait_rest_token 𝒱₀ ER (Rd m) (c : Thread nD τ) none (κ := K (c, .reg barr))
      (wpE_semWait_eq 𝒱₀ (c : Thread nD τ) none Set.univ) (Set.mem_univ _) () (O := oZ c 0 + oY c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar' m c)) $$ Hpay
  imod (Rounds.cell_close ER (Rd m) (Set.mem_univ (K (c, .reg barr))) (fun h => h) (R := 0 + 1) (duties_later m (bcell c))) $$ [Hat] with Hz
  · isplitr; · iexact HI
    iexact Hat
  icases Hp with ⟨Hy, Hz'⟩
  iapply Hk
  isplitl [Hy]; · iexact Hy
  isplitl [Hz']; · iexact Hz'
  isplitl [Hz]; · iexact Hz
  iexists _; iexact HO

end Cert.KernelIdeal
-- ==== Proof.Loads.lean ====
/- The staged arrays rounded into place, and the result copied out. -/
module

public import proofs.«01_k».proof.Proof.Local

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (K : Dev nD × SemLoc sig → ℕ)

theorem zero3 : (![0, 0, 0] : Fin 3 → Nat) = fun _ => 0 := funext fun a => by fin_cases a <;> rfl

theorem slot0_emb (j : S1x2x256x512.Idx) : slot0 (rSlot0.emb j) = j := by
  have h0 : (j 0).val < 1 := (j 0).isLt
  funext a
  match a with
  | ⟨0, _⟩ => exact Fin.ext (show 0 = (j 0).val by omega)
  | ⟨1, _⟩ => exact Fin.ext (show 0 + 1 * (j 1).val = (j 1).val by omega)
  | ⟨2, _⟩ => exact Fin.ext (show 0 + 1 * (j 2).val = (j 2).val by omega)
  | ⟨3, _⟩ => exact Fin.ext (show 0 + 1 * (j 3).val = (j 3).val by omega)
theorem slot0_emb0 (j : S1x2x256x512.Idx) : ((rSlot0.emb j) 0).val = 0 := by
  have h0 : (j 0).val < 1 := (j 0).isLt
  show 0 + 1 * (j 0).val = 0
  omega

theorem two_emb (c : Dev nD) (b : Bool) (j : S1x2x256x512.Idx) : two m c b (rSlot0.emb j) = own m b c (rSlot0.emb j) := by
  unfold two; rw [if_pos (slot0_emb0 j)]

theorem set_kf0 : (kf.access rSlot0).set = sSlot 0 := (View.set_slice_whole cc0_scratch5 rSlot0).trans set_rSlot0
theorem set_vf0 : (vf.access rSlot0).set = sSlot 0 := (View.set_slice_whole cc0_scratch6 rSlot0).trans set_rSlot0

theorem read_sK (f : Arr F) : sK.view.readAt (Elt F) rAll3.toLoadRect f = f := Memref.readAt_unit_zero (Elt F) cc0_scratch1 zero3 _ f
theorem read_sV (f : Arr F) : sV.view.readAt (Elt F) rAll3.toLoadRect f = f := Memref.readAt_unit_zero (Elt F) cc0_scratch2 zero3 _ f
theorem read_sQ (f : Arr F) : sQ.view.readAt (Elt F) rAll3.toLoadRect f = f := Memref.readAt_unit_zero (Elt F) cc0_scratch0 zero3 _ f
theorem write_qb (f w : S2x256x512.Idx → Elt F .bf16) : (qb.access rAll3).write (Elt F) f w Finset.univ = w :=
  Memref.write_access_unit_zero_univ (Elt F) cc0_scratch4 zero3 _ f w

theorem wrote_kf (c : Dev nD) (f : Two F) :
    ∀ i ∈ sSlot 0, (kf.access rSlot0).write (Elt F) f (k0_pay1 (argK m c)) Finset.univ i = two m c false i := by
  intro i hi
  rw [← set_kf0] at hi
  obtain ⟨j, -, rfl⟩ := Finset.mem_map.mp hi
  refine (View.write_emb_of_mem (v := kf.access rSlot0) _ _ (Finset.mem_univ j)).trans ?_
  exact ((two_emb m c false j).trans (congrArg (k0_pay1 (argK m c)) (slot0_emb j))).symm
theorem wrote_vf (c : Dev nD) (f : Two F) :
    ∀ i ∈ sSlot 0, (vf.access rSlot0).write (Elt F) f (k0_pay2 (argV m c)) Finset.univ i = two m c true i := by
  intro i hi
  rw [← set_vf0] at hi
  obtain ⟨j, -, rfl⟩ := Finset.mem_map.mp hi
  refine (View.write_emb_of_mem (v := vf.access rSlot0) _ _ (Finset.mem_univ j)).trans ?_
  exact ((two_emb m c true j).trans (congrArg (k0_pay2 (argV m c)) (slot0_emb j))).symm

theorem credit_sK : sK.view.dmaCredit = nI := by unfold View.dmaCredit; rfl
theorem credit_sV : sV.view.dmaCredit = nI := by unfold View.dmaCredit; rfl

/-- The staged keys rounded into slot 0. -/
def roundK (k : PG F) : PG F :=
  .op (.load sK rAll3.toLoadRect (View.loadsAt_vmem h_S2x256x512)) fun x =>
  .op (.load kf rSlot0.toLoadRect (View.loadsAt_vmem h_S1x2x256x512)) fun _ =>
  .op (.store kf rSlot0 (k0_pay1 x) Finset.univ (View.stores_vmem h_S1x2x256x512
    ((Memref.isWhole_whole _).storeExact_slice rfl _ packedbf16_S2x2x256x512_S1x2x256x512_0_0_0_0) (fun _ => rfl)) (.inl rfl)) fun _ => k
/-- The staged values rounded into slot 0. -/
def roundV (k : PG F) : PG F :=
  .op (.load sV rAll3.toLoadRect (View.loadsAt_vmem h_S2x256x512)) fun x =>
  .op (.load vf rSlot0.toLoadRect (View.loadsAt_vmem h_S1x2x256x512)) fun _ =>
  .op (.store vf rSlot0 (k0_pay2 x) Finset.univ (View.stores_vmem h_S1x2x256x512
    ((Memref.isWhole_whole _).storeExact_slice rfl _ packedbf16_S2x2x256x512_S1x2x256x512_0_0_0_0) (fun _ => rfl)) (.inl rfl)) fun _ => k

theorem loadsP_eq (k : PG F) : loadsP k =
    .op (.waitDma2 (insem 1) hK sK (Memref.isWhole_whole _).wordExact (Memref.isWhole_whole _).wordExact) fun _ =>
    .op (.waitDma2 (insem 2) hV sV (Memref.isWhole_whole _).wordExact (Memref.isWhole_whole _).wordExact) fun _ => roundK (roundV k) := rfl

theorem roundK_step (c : Dev nD) (kk : PG F) (Q : PUnit → sProp 𝕄) :
    iprop((sK.view.loc (c : Thread nD τ) ↦{fullShare} argK m c) ∗ (∃ f, pts c false (sSlot 0) fullShare f)
        ∗ (((sK.view.loc (c : Thread nD τ) ↦{fullShare} argK m c) ∗ pts c false (sSlot 0) fullShare (two m c false)) -∗ WP c kk Q))
      ⊢ WP c (roundK kk) Q := by
  unfold roundK
  dsimp only [pts]
  iintro ⟨Hs, ⟨%f, Hf⟩, Hk⟩
  iapply (wp_load 𝒱₀ (c : Thread nD τ) none Set.univ (m := sK) (Finset.subset_univ _)) $$ Hs
  iintro Hs
  iapply (wp_load 𝒱₀ (c : Thread nD τ) none Set.univ (m := kf) (S := sSlot 0) (by rw [on_kf]; exact set_rSlot0.subset)) $$ Hf
  iintro Hf
  iapply (wp_store 𝒱₀ (c : Thread nD τ) none Set.univ (m := kf) (r := rSlot0) (S := sSlot 0) (by rw [View.setOn_univ]; exact set_kf0.subset)) $$ Hf
  iintro Hf
  rw [read_sK]
  ihave Hf := (Entails.of_eq (pointsTo_congr (ℓ := kf.view.loc (c : Thread nD τ)) (q := fullShare) (wrote_kf m c f))) $$ Hf
  iapply Hk
  isplitl [Hs]; · iexact Hs
  iexact Hf

theorem roundV_step (c : Dev nD) (kk : PG F) (Q : PUnit → sProp 𝕄) :
    iprop((sV.view.loc (c : Thread nD τ) ↦{fullShare} argV m c) ∗ (∃ f, pts c true (sSlot 0) fullShare f)
        ∗ (((sV.view.loc (c : Thread nD τ) ↦{fullShare} argV m c) ∗ pts c true (sSlot 0) fullShare (two m c true)) -∗ WP c kk Q))
      ⊢ WP c (roundV kk) Q := by
  unfold roundV
  dsimp only [pts]
  iintro ⟨Hs, ⟨%f, Hf⟩, Hk⟩
  iapply (wp_load 𝒱₀ (c : Thread nD τ) none Set.univ (m := sV) (Finset.subset_univ _)) $$ Hs
  iintro Hs
  iapply (wp_load 𝒱₀ (c : Thread nD τ) none Set.univ (m := vf) (S := sSlot 0) (by rw [on_vf]; exact set_rSlot0.subset)) $$ Hf
  iintro Hf
  iapply (wp_store 𝒱₀ (c : Thread nD τ) none Set.univ (m := vf) (r := rSlot0) (S := sSlot 0) (by rw [View.setOn_univ]; exact set_vf0.subset)) $$ Hf
  iintro Hf
  rw [read_sV]
  ihave Hf := (Entails.of_eq (pointsTo_congr (ℓ := vf.view.loc (c : Thread nD τ)) (q := fullShare) (wrote_vf m c f))) $$ Hf
  iapply Hk
  isplitl [Hs]; · iexact Hs
  iexact Hf

/-- The keys and the values arrive and are rounded into slot 0. -/
theorem loads_step (c : Dev nD) (kk : PG F) (Q : PUnit → sProp 𝕄) :
    iprop(records m K ∗ levAts L lv ∗ (In1 c 1 ∗ In1 c 2)
        ∗ ((∃ f, pts c false (sSlot 0) fullShare f) ∗ (∃ f, pts c true (sSlot 0) fullShare f)) ∗ ow c (oZ c 0 + oY c 0)
        ∗ (((In2 m c 1 ∗ In2 m c 2) ∗ (pts c false (sSlot 0) fullShare (two m c false) ∗ pts c true (sSlot 0) fullShare (two m c true))
            ∗ ow c (oZ c 0 + oY c 0)) -∗ WP c kk Q))
      ⊢ WP c (loadsP kk) Q := by
  rw [loadsP_eq]
  iintro ⟨#HR, #Hlev, ⟨HK, HV⟩, ⟨Hkf, Hvf⟩, HO, Hk⟩
  iapply (inWait_step m K c 1 0 (d := sK) credit_sK)
  isplitr; · iexact HR
  isplitr; · iexact Hlev
  isplitl [HK]; · iexact HK
  isplitl [HO]; · iexact HO
  iintro ⟨HK, HO⟩
  iapply (inWait_step m K c 2 0 (d := sV) credit_sV)
  isplitr; · iexact HR
  isplitr; · iexact Hlev
  isplitl [HV]; · iexact HV
  isplitl [HO]; · iexact HO
  iintro ⟨HV, HO⟩
  unfold In2 inPay
  dsimp only
  icases HK with ⟨Hzk, HsK, HhK⟩
  icases HV with ⟨Hzv, HsV, HhV⟩
  iapply (roundK_step m c)
  isplitl [HsK]; · iexact HsK
  isplitl [Hkf]; · iexact Hkf
  iintro ⟨HsK, Hkf⟩
  iapply (roundV_step m c)
  isplitl [HsV]; · iexact HsV
  isplitl [Hvf]; · iexact Hvf
  iintro ⟨HsV, Hvf⟩
  iapply Hk
  isplitl [Hzk HsK HhK Hzv HsV HhV]
  · iframe Hzk HsK HhK Hzv HsV HhV
  isplitl [Hkf Hvf]
  · isplitl [Hkf] <;> iassumption
  iexact HO

/-- The queries arrive and are scaled and rounded. -/
theorem query_step (c : Dev nD) (kk : PG F) (Q : PUnit → sProp 𝕄) :
    iprop(records m K ∗ levAts L lv ∗ In1 c 0
        ∗ (∃ f : S2x256x512.Idx → Elt F .bf16, (qb.view.loc (c : Thread nD τ)) ↦{fullShare} f) ∗ ow c (oZ c 0)
        ∗ ((In2 m c 0 ∗ QB m c ∗ ow c (oZ c 0)) -∗ WP c kk Q))
      ⊢ WP c (queryP kk) Q := by
  rw [show oZ c 0 = oZ c 0 + oY c 8 from by rw [oY_end, add_zero]]
  unfold queryP QB
  iintro ⟨#HR, #Hlev, HQ, ⟨%fq, Hq⟩, HO, Hk⟩
  iapply (inWait_step m K c 0 8 rfl)
  isplitr; · iexact HR
  isplitr; · iexact Hlev
  isplitl [HQ]; · iexact HQ
  isplitl [HO]; · iexact HO
  iintro ⟨HQ, HO⟩
  unfold In2 inPay
  dsimp only
  icases HQ with ⟨Hz, Hs, Hh⟩
  iapply (wp_load 𝒱₀ (c : Thread nD τ) none Set.univ (m := sQ) (Finset.subset_univ _)) $$ Hs
  iintro Hs
  iapply (wp_load 𝒱₀ (c : Thread nD τ) none Set.univ (m := qb) (Finset.subset_univ _)) $$ Hq
  iintro Hq
  iapply (wp_store 𝒱₀ (c : Thread nD τ) none Set.univ (m := qb) (r := rAll3) (Finset.subset_univ _)) $$ Hq
  iintro Hq
  rw [read_sQ, write_qb]
  iapply Hk
  isplitl [Hz Hs Hh]
  · iframe Hz Hs Hh
  isplitl [Hq]; · iexact Hq
  iexact HO

/-! ## The result -/

theorem set_mO (bi : Fin 2) : (mO bi).view.set = sHalf bi :=
  (View.set_reshape _ _).trans ((View.set_slice_whole cc0_scratch3 (rHalf bi)).trans (set_rHalf bi))
theorem set_mOut (bi : Fin 2) : (mOut bi).view.set = sHalf bi :=
  (View.set_reshape _ _).trans ((View.set_slice_whole main_v1 (rHalf bi)).trans (set_rHalf bi))

/-- A copied batch entry holds what the staged one held in the same places. -/
theorem land_out (bi : Fin 2) (fs fd : Arr F) :
    ∀ i ∈ sHalf bi, (mOut bi).view.write (Elt F) fd ((mO bi).view.read (Elt F) fs) Finset.univ i = fs i := by
  intro i hi
  have hi : i ∈ (mOut bi).view.set := by rw [set_mOut]; exact hi
  obtain ⟨y, -, rfl⟩ := Finset.mem_map.mp hi
  exact land_at (mOut bi).view (mO bi).view fd fs y

theorem outStart_step (c : Dev nD) (bi : Fin 2) (kk : PG F) (Q : PUnit → sProp 𝕄) :
    iprop(records m K ∗ OO m c bi (8 * bi.val + 8)
        ∗ (∃ f : Arr F, (hO.view.loc (c : Thread nD τ)) ↦[sHalf bi]{fullShare} f) ∗ tok c (outsem bi)
        ∗ (crd c (outsem bi) -∗ WP c kk Q))
      ⊢ WP c (outStart bi kk) Q := by
  unfold outStart OO
  iintro ⟨#HR, ⟨%fs, %hs, Hs⟩, ⟨%fd, Hd⟩, Ht, Hk⟩
  have hb : ∀ i ∈ sHalf bi, fs i = out m c i := fun i hi => hs i hi (by
    have h0 := (mem_half bi i).mp hi
    have hb := bounds3 i
    show 8 * (i 0).val + (i 2).val / 64 < _
    omega)
  have e₁ : ∀ i ∈ sHalf bi, (mOut bi).view.write (Elt F) fd ((mO bi).view.read (Elt F) fs) Finset.univ i = out m c i :=
    fun i hi => (land_out bi fs fd i hi).trans (hb i hi)
  iapply (copy_step m K c (outsem bi) (a := mO bi) (d := mOut bi) ((credit_out bi).trans (amt_outsem bi).symm) (fs := fs) (fd := fd) (by
    rw [set_mOut, set_mO, pay_outsem]
    exact BI.Laws.sep_mono (Entails.of_eq (pointsTo_congr (ℓ := hO.view.loc (c : Thread nD τ)) (q := fullShare) e₁))
      (Entails.of_eq (pointsTo_congr (ℓ := sO.view.loc (c : Thread nD τ)) (q := fullShare) hb))) kk Q)
  isplitr; · iexact HR
  rw [set_mOut, set_mO]
  isplitl [Hs]; · iexact Hs
  isplitl [Hd]; · iexact Hd
  isplitl [Ht]; · iexact Ht
  iexact Hk

theorem outWait_step (c : Dev nD) (bi : Fin 2) (kk : PG F) (Q : PUnit → sProp 𝕄) :
    iprop(records m K ∗ levAts L lv ∗ crd c (outsem bi) ∗ pos c (.dma (outsem bi)) ∗ ow c 0
        ∗ ((zero c (outsem bi) ∗ outArr m c bi ∗ ow c 0) -∗ WP c kk Q))
      ⊢ WP c (outWait bi kk) Q := by
  unfold outWait
  exact wait_dma m K c (outsem bi) ((credit_out bi).trans (amt_outsem bi).symm) (pay_outsem m c bi) 0 (mayWait_zero c _) kk Q

end Cert.KernelIdeal
-- ==== Proof.Parts.lean ====
/- The body from its launch state to its end: the repeated parts as chains of one step each, then the whole. -/
module

public import proofs.«01_k».proof.Proof.Loads

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (K : Dev nD × SemLoc sig → ℕ)

/-! ## Chains -/

theorem eight (Φ : Fin 8 → sProp 𝕄) : bigSep Finset.univ Φ
    = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  repeat rw [bigSepL_cons_cons]
  rw [bigSepL_singleton]
  rfl
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  repeat rw [bigSepL_cons_cons]
  rw [bigSepL_singleton]
  rfl
/-- Eight chunks are the four of the first batch entry and the four of the second. -/
theorem two_fours (Φ : Fin 8 → sProp 𝕄) : bigSep Finset.univ Φ
    = iprop((bigSep Finset.univ fun k : Fin 4 => Φ ⟨4 * (0 : Fin 2).val + k.val, by omega⟩)
        ∗ (bigSep Finset.univ fun k : Fin 4 => Φ ⟨4 * (1 : Fin 2).val + k.val, by omega⟩)) := by
  rw [eight, four, four]
  refine eqv (show iprop(Φ 0 ∗ Φ 1 ∗ Φ 2 ∗ Φ 3 ∗ Φ 4 ∗ Φ 5 ∗ Φ 6 ∗ Φ 7)
    ⊣⊢ iprop((Φ 0 ∗ Φ 1 ∗ Φ 2 ∗ Φ 3) ∗ (Φ 4 ∗ Φ 5 ∗ Φ 6 ∗ Φ 7)) from ⟨?_, ?_⟩)
  · iintro ⟨H0, H1, H2, H3, H4⟩
    isplitr [H4]
    · iframe H0 H1 H2 H3
    · iexact H4
  · iintro ⟨⟨H0, H1, H2, H3⟩, H4⟩
    iframe H0 H1 H2 H3 H4

/-- Eight statements in a row, each taking its own resource from `A` to `B` and the shared one a step on. -/
theorem chain8 (c : Dev nD) (f : Fin 8 → PG F → PG F) (A B : Fin 8 → sProp 𝕄) (R : ℕ → sProp 𝕄)
    (h : ∀ (i : Fin 8) (kk : PG F) (Q : PUnit → sProp 𝕄),
      iprop((records m K ∗ levAts L lv) ∗ (A i ∗ R i.val) ∗ ((B i ∗ R (i.val + 1)) -∗ WP c kk Q)) ⊢ WP c (f i kk) Q)
    (kk : PG F) (Q : PUnit → sProp 𝕄) :
    iprop((records m K ∗ levAts L lv) ∗ (bigSep Finset.univ A ∗ R 0) ∗ ((bigSep Finset.univ B ∗ R 8) -∗ WP c kk Q))
      ⊢ WP c (f 0 <| f 1 <| f 2 <| f 3 <| f 4 <| f 5 <| f 6 <| f 7 kk) Q := by
  have h' : ∀ (i : Fin 8) (n n' : ℕ), i.val = n → n + 1 = n' → ∀ (kk : PG F) (Q : PUnit → sProp 𝕄),
      iprop((records m K ∗ levAts L lv) ∗ (A i ∗ R n) ∗ ((B i ∗ R n') -∗ WP c kk Q)) ⊢ WP c (f i kk) Q := by
    rintro i _ _ rfl rfl; exact h i
  rw [eight, eight]
  iintro ⟨#H, ⟨⟨A0, A1, A2, A3, A4, A5, A6, A7⟩, HR⟩, Hk⟩
  iapply (h' 0 0 1 rfl rfl); isplitr; · iexact H
  isplitl [A0 HR]; · isplitl [A0] <;> iassumption
  iintro ⟨A0, HR⟩
  iapply (h' 1 1 2 rfl rfl); isplitr; · iexact H
  isplitl [A1 HR]; · isplitl [A1] <;> iassumption
  iintro ⟨A1, HR⟩
  iapply (h' 2 2 3 rfl rfl); isplitr; · iexact H
  isplitl [A2 HR]; · isplitl [A2] <;> iassumption
  iintro ⟨A2, HR⟩
  iapply (h' 3 3 4 rfl rfl); isplitr; · iexact H
  isplitl [A3 HR]; · isplitl [A3] <;> iassumption
  iintro ⟨A3, HR⟩
  iapply (h' 4 4 5 rfl rfl); isplitr; · iexact H
  isplitl [A4 HR]; · isplitl [A4] <;> iassumption
  iintro ⟨A4, HR⟩
  iapply (h' 5 5 6 rfl rfl); isplitr; · iexact H
  isplitl [A5 HR]; · isplitl [A5] <;> iassumption
  iintro ⟨A5, HR⟩
  iapply (h' 6 6 7 rfl rfl); isplitr; · iexact H
  isplitl [A6 HR]; · isplitl [A6] <;> iassumption
  iintro ⟨A6, HR⟩
  iapply (h' 7 7 8 rfl rfl); isplitr; · iexact H
  isplitl [A7 HR]; · isplitl [A7] <;> iassumption
  iintro ⟨A7, HR⟩
  iapply Hk
  isplitr [HR]
  · iframe A0 A1 A2 A3 A4 A5 A6 A7
  iexact HR

/-- Four statements in a row. -/
theorem chain4 (c : Dev nD) (f : Fin 4 → PG F → PG F) (A B : Fin 4 → sProp 𝕄) (R : sProp 𝕄)
    (h : ∀ (i : Fin 4) (kk : PG F) (Q : PUnit → sProp 𝕄),
      iprop((records m K ∗ levAts L lv) ∗ (A i ∗ R) ∗ ((B i ∗ R) -∗ WP c kk Q)) ⊢ WP c (f i kk) Q)
    (kk : PG F) (Q : PUnit → sProp 𝕄) :
    iprop((records m K ∗ levAts L lv) ∗ (bigSep Finset.univ A ∗ R) ∗ ((bigSep Finset.univ B ∗ R) -∗ WP c kk Q))
      ⊢ WP c (f 0 <| f 1 <| f 2 <| f 3 kk) Q := by
  rw [four, four]
  iintro ⟨#H, ⟨⟨A0, A1, A2, A3⟩, HR⟩, Hk⟩
  iapply (h 0); isplitr; · iexact H
  isplitl [A0 HR]; · isplitl [A0] <;> iassumption
  iintro ⟨A0, HR⟩
  iapply (h 1); isplitr; · iexact H
  isplitl [A1 HR]; · isplitl [A1] <;> iassumption
  iintro ⟨A1, HR⟩
  iapply (h 2); isplitr; · iexact H
  isplitl [A2 HR]; · isplitl [A2] <;> iassumption
  iintro ⟨A2, HR⟩
  iapply (h 3); isplitr; · iexact H
  isplitl [A3 HR]; · isplitl [A3] <;> iassumption
  iintro ⟨A3, HR⟩
  iapply Hk
  isplitr [HR]
  · iframe A0 A1 A2 A3
  iexact HR

/-! ## The parts -/

theorem sends_step (c : Dev nD) (kk : PG F) (Q : PUnit → sProp 𝕄) :
    iprop((records m K ∗ levAts L lv) ∗ ((bigSep Finset.univ fun ci => St0 m c ci) ∗ ow c (oZ c 0 + oY c 0))
        ∗ (((bigSep Finset.univ fun ci => St1 c ci) ∗ ow c (oZ c 0 + oY c 8)) -∗ WP c kk Q))
      ⊢ WP c (sendsP c kk) Q :=
  chain8 m K c (fun ci k => ySend (zb c) (yp c) ci k) (fun ci => St0 m c ci) (fun ci => St1 c ci) (fun n => ow c (oZ c 0 + oY c n))
    (fun ci kk Q => by
      iintro ⟨⟨#HR, -⟩, ⟨HA, HO⟩, Hk⟩
      iapply (ySend_step m K c ci)
      isplitr; · iexact HR
      isplitl [HA]; · iexact HA
      isplitl [HO]; · iexact HO
      iexact Hk) kk Q

/-- What the heads over the first half hold, the heads before `n` done. -/
def Hd1 (c : Dev nD) (n : ℕ) : sProp 𝕄 := iprop(QB m c ∗ KV m c (sSlot 0) ∗ O1 m c n ∗ L1 m c n)

theorem seg_step (c : Dev nD) (ci : Fin 8) (kk : PG F) (Q : PUnit → sProp 𝕄) :
    iprop((records m K ∗ levAts L lv) ∗ (St1 c ci ∗ (Hd1 m c (2 * ci.val) ∗ ow c (oZ c ci.val)))
        ∗ ((St2 m c ci ∗ (Hd1 m c (2 * (ci.val + 1)) ∗ ow c (oZ c (ci.val + 1)))) -∗ WP c kk Q))
      ⊢ WP c (chunkSeg c ci kk) Q := by
  unfold chunkSeg Hd1
  iintro ⟨⟨#HR, #Hl⟩, ⟨HA, HH, HO⟩, Hk⟩
  iapply (head1_step m c ⟨2 * ci.val, _⟩)
  isplitl [HH]; · iexact HH
  iintro HH
  iapply (head1_step m c ⟨2 * ci.val + 1, _⟩)
  isplitl [HH]; · iexact HH
  iintro HH
  iapply (service_step m K c ci)
  isplitr; · iexact HR
  isplitr; · iexact Hl
  isplitl [HA]; · iexact HA
  isplitl [HO]; · iexact HO
  iintro ⟨HA, HO⟩
  iapply Hk
  isplitl [HA]; · iexact HA
  isplitl [HH]; · iexact HH
  iexact HO

theorem segs_step (c : Dev nD) (kk : PG F) (Q : PUnit → sProp 𝕄) :
    iprop((records m K ∗ levAts L lv) ∗ ((bigSep Finset.univ fun ci => St1 c ci) ∗ (Hd1 m c 0 ∗ ow c (oZ c 0)))
        ∗ (((bigSep Finset.univ fun ci => St2 m c ci) ∗ (Hd1 m c 16 ∗ ow c (oZ c 8))) -∗ WP c kk Q))
      ⊢ WP c (chunkSeg c 0 <| chunkSeg c 1 <| chunkSeg c 2 <| chunkSeg c 3 <| chunkSeg c 4 <| chunkSeg c 5 <| chunkSeg c 6 <|
          chunkSeg c 7 kk) Q :=
  chain8 m K c (chunkSeg c) (fun ci => St1 c ci) (fun ci => St2 m c ci)
    (fun n => iprop(Hd1 m c (2 * n) ∗ ow c (oZ c n))) (fun ci kk Q => seg_step m K c ci kk Q) kk Q

/-- What the heads of batch entry `bi` over the second half hold, the heads before `n` done. -/
def Hd2 (c : Dev nD) (bi : Fin 2) (n : ℕ) : sProp 𝕄 :=
  iprop(QB m c ∗ KV m c (sWin 1 bi) ∗ O1 m c 16 ∗ L1 m c 16 ∗ OO m c bi n)

theorem heads2_step (c : Dev nD) (bi : Fin 2) (kk : PG F) (Q : PUnit → sProp 𝕄) :
    iprop((records m K ∗ levAts L lv) ∗ ((bigSep (Finset.univ : Finset (Fin 8)) fun _ => iprop(emp)) ∗ Hd2 m c bi (8 * bi.val))
        ∗ (((bigSep (Finset.univ : Finset (Fin 8)) fun _ => iprop(emp)) ∗ Hd2 m c bi (8 * bi.val + 8)) -∗ WP c kk Q))
      ⊢ WP c (heads2 bi kk) Q :=
  chain8 m K c (fun i k => head2 ⟨8 * bi.val + i.val, by omega⟩ k) (fun _ => iprop(emp)) (fun _ => iprop(emp))
    (fun n => Hd2 m c bi (8 * bi.val + n)) (fun i kk Q => by
      unfold Hd2
      iintro ⟨-, ⟨-, HH⟩, Hk⟩
      iapply (head2_step m c bi ⟨8 * bi.val + i.val, _⟩ (show (8 * bi.val + i.val) / 8 = bi.val by omega))
      isplitl [HH]; · iexact HH
      iintro HH
      iapply Hk
      isplitr [HH]; · iempintro
      iexact HH) kk Q

theorem zWaits_step (c : Dev nD) (bi : Fin 2) (kk : PG F) (Q : PUnit → sProp 𝕄) :
    iprop((records m K ∗ levAts L lv) ∗ ((bigSep Finset.univ fun k : Fin 4 => St2 m c ⟨4 * bi.val + k.val, by omega⟩) ∗ ow c 0)
        ∗ (((bigSep Finset.univ fun k : Fin 4 => iprop(St3 m c ⟨4 * bi.val + k.val, by omega⟩
              ∗ rightPc m c ⟨4 * bi.val + k.val, by omega⟩)) ∗ ow c 0) -∗ WP c kk Q))
      ⊢ WP c (zWait ⟨4 * bi.val, by omega⟩ <| zWait ⟨4 * bi.val + 1, by omega⟩ <| zWait ⟨4 * bi.val + 2, by omega⟩ <|
          zWait ⟨4 * bi.val + 3, by omega⟩ kk) Q :=
  chain4 m K c (fun k p => zWait ⟨4 * bi.val + k.val, by omega⟩ p) (fun k => St2 m c ⟨4 * bi.val + k.val, by omega⟩)
    (fun k => iprop(St3 m c ⟨4 * bi.val + k.val, by omega⟩ ∗ rightPc m c ⟨4 * bi.val + k.val, by omega⟩)) (ow c 0) (fun k kk Q => by
      iintro ⟨⟨#HR, #Hl⟩, ⟨HA, HO⟩, Hk⟩
      iapply (zWait_step m K c ⟨4 * bi.val + k.val, _⟩)
      isplitr; · iexact HR
      isplitr; · iexact Hl
      isplitl [HA]; · iexact HA
      isplitl [HO]; · iexact HO
      iintro ⟨H3, Hr, HO⟩
      iapply Hk
      isplitr [HO]
      · isplitl [H3] <;> iassumption
      iexact HO) kk Q

/-- The four received chunks of a batch entry, of both buffers, are what its heads read. -/
theorem right_win (c : Dev nD) (bi : Fin 2) :
    (bigSep Finset.univ fun k : Fin 4 => rightPc m c ⟨4 * bi.val + k.val, by omega⟩) = KV m c (sWin 1 bi) := by
  unfold rightPc KV
  rw [bigSep_sep', pts_win, pts_win]

/-- What batch entry `bi` needs beside its chunks and the first half's sums; and what it leaves. -/
def Ha0 (c : Dev nD) (bi : Fin 2) : sProp 𝕄 :=
  iprop((∃ f : Arr F, (sO.view.loc (c : Thread nD τ)) ↦[sHalf bi]{fullShare} f)
    ∗ (∃ f : Arr F, (hO.view.loc (c : Thread nD τ)) ↦[sHalf bi]{fullShare} f) ∗ tok c (outsem bi) ∗ pos c (.dma (outsem bi)))
def Ha1 (c : Dev nD) (bi : Fin 2) : sProp 𝕄 :=
  iprop(KV m c (sWin 1 bi) ∗ crd c (outsem bi) ∗ pos c (.dma (outsem bi)))
def Ha2 (c : Dev nD) (bi : Fin 2) : sProp 𝕄 :=
  iprop(KV m c (sWin 1 bi) ∗ zero c (outsem bi) ∗ outArr m c bi)

theorem half_step (c : Dev nD) (bi : Fin 2) (kk : PG F) (Q : PUnit → sProp 𝕄) :
    iprop((records m K ∗ levAts L lv) ∗ ((bigSep Finset.univ fun k : Fin 4 => St2 m c ⟨4 * bi.val + k.val, by omega⟩) ∗ ow c 0)
        ∗ (QB m c ∗ O1 m c 16 ∗ L1 m c 16) ∗ Ha0 c bi
        ∗ (((bigSep Finset.univ fun k : Fin 4 => St3 m c ⟨4 * bi.val + k.val, by omega⟩) ∗ ow c 0
            ∗ (QB m c ∗ O1 m c 16 ∗ L1 m c 16) ∗ Ha1 m c bi) -∗ WP c kk Q))
      ⊢ WP c (half bi kk) Q := by
  unfold half Ha0 Ha1
  iintro ⟨#H, HA, ⟨HQ, HO1, HL1⟩, ⟨⟨%f, Hs⟩, Ho, Ht, Hp⟩, Hk⟩
  iapply (zWaits_step m K c bi)
  isplitr; · iexact H
  isplitl [HA]; · iexact HA
  rw [bigSep_sep', right_win]
  iintro ⟨⟨H3, HKV⟩, HO⟩
  iapply (heads2_step m K c bi)
  isplitr; · iexact H
  unfold Hd2
  isplitl [HQ HKV HO1 HL1 Hs]
  · isplitr
    · iapply (Entails.of_eq (bigSep_emp_const (M := 𝕄) (Finset.univ : Finset (Fin 8))).symm); iempintro
    isplitl [HQ]; · iexact HQ
    isplitl [HKV]; · iexact HKV
    isplitl [HO1]; · iexact HO1
    isplitl [HL1]; · iexact HL1
    unfold OO
    iexists f
    isplitr
    · ipureintro
      intro i hi hlt
      have h0 := (mem_half bi i).mp hi
      have hb := bounds3 i
      have hlt : 8 * (i 0).val + (i 2).val / 64 < 8 * bi.val := hlt
      omega
    iexact Hs
  iintro ⟨-, HQ, HKV, HO1, HL1, HOO⟩
  iapply (outStart_step m K c bi)
  isplitr; · icases H with ⟨#HR, -⟩; iexact HR
  isplitl [HOO]; · iexact HOO
  isplitl [Ho]; · iexact Ho
  isplitl [Ht]; · iexact Ht
  iintro Hc
  iapply Hk
  isplitl [H3]; · iexact H3
  isplitl [HO]; · iexact HO
  isplitl [HQ HO1 HL1]
  · iframe HQ HO1 HL1
  iframe HKV Hc Hp

theorem drains_step (c : Dev nD) (kk : PG F) (Q : PUnit → sProp 𝕄) :
    iprop((records m K ∗ levAts L lv) ∗ ((bigSep Finset.univ fun ci => St3 m c ci) ∗ ow c 0)
        ∗ (((bigSep Finset.univ fun ci => St4 m c ci) ∗ ow c 0) -∗ WP c kk Q))
      ⊢ WP c (drain 0 <| drain 1 <| drain 2 <| drain 3 <| drain 4 <| drain 5 <| drain 6 <| drain 7 kk) Q :=
  chain8 m K c drain (fun ci => St3 m c ci) (fun ci => St4 m c ci) (fun _ => ow c 0) (fun ci kk Q => by
      iintro ⟨⟨#HR, #Hl⟩, ⟨HA, HO⟩, Hk⟩
      iapply (drain_step m K c ci)
      isplitr; · iexact HR
      isplitr; · iexact Hl
      isplitl [HA]; · iexact HA
      isplitl [HO]; · iexact HO
      iexact Hk) kk Q

end Cert.KernelIdeal
-- ==== Proof.Body.lean ====
/- The whole body of a device, from what it holds at launch to what it leaves. -/
module

public import proofs.«01_k».proof.Proof.Parts

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (K : Dev nD × SemLoc sig → ℕ)

/-- The tokens, positions and credits of chunk `ci`. -/
def Tk (c : Dev nD) (ci : Fin 8) : sProp 𝕄 :=
  iprop(tok c (ysend ci) ∗ tok (yp c) (yin ci) ∗ tok c (zsend ci) ∗ tok (zp c) (zin ci)
    ∗ pos c (.dma (ysend ci)) ∗ pos c (.dma (yin ci)) ∗ pos c (.dma (zsend ci)) ∗ pos c (.dma (zin ci))
    ∗ crd c (yin ci) ∗ crd c (zin ci))

theorem ex_chunks (c : Dev nD) (b : Bool) :
    (iprop(∃ f, pts c b (sSlot 1) fullShare f) : sProp 𝕄) ⊢ bigSep Finset.univ fun ci : Fin 8 => iprop(∃ f, pts c b (sChunk 1 ci) fullShare f) := by
  iintro ⟨%f, H⟩
  ihave H := (Entails.of_eq (pts_chunks (F := F) (c := c) (b := b) (q := fullShare) (f := f) 1)) $$ H
  have key : ∀ ci : Fin 8, (pts c b (sChunk 1 ci) fullShare f : sProp 𝕄) ⊢ iprop(∃ f, pts c b (sChunk 1 ci) fullShare f) :=
    fun ci => by iintro H; iexists f; iexact H
  have hm : (bigSep Finset.univ fun ci : Fin 8 => (pts c b (sChunk 1 ci) fullShare f : sProp 𝕄))
      ⊢ bigSep Finset.univ fun ci : Fin 8 => iprop(∃ f, pts c b (sChunk 1 ci) fullShare f) := bigSep_mono fun ci _ => key ci
  iapply hm
  iexact H

/-- Every chunk ready to be sent. -/
theorem st0_intro (c : Dev nD) :
    iprop((bigSep Finset.univ fun ci => Tk c ci) ∗ pts c (zb c) (sSlot 0) fullShare.left (two m c (zb c))
        ∗ (∃ f, pts (yp c) (zb c) (sSlot 1) fullShare f) ∗ (∃ f, pts (zp c) (zb c) (sSlot 1) fullShare f))
      ⊢ bigSep Finset.univ fun ci => St0 m c ci := by
  have key : ∀ ci : Fin 8, iprop(Tk c ci ∗ pts c (zb c) (sChunk 0 ci) fullShare.left (two m c (zb c))
      ∗ (∃ f, pts (yp c) (zb c) (sChunk 1 ci) fullShare f) ∗ (∃ f, pts (zp c) (zb c) (sChunk 1 ci) fullShare f)) ⊢ St0 m c ci := fun ci => by
    unfold Tk St0
    iintro ⟨H, Hs, Hy, Hz⟩
    isplitl [Hs]; · iexact Hs
    isplitl [Hy]; · iexact Hy
    isplitl [Hz]; · iexact Hz
    iexact H
  refine (BI.Laws.sep_mono (BI.Entails.refl _) (BI.Laws.sep_mono (Entails.of_eq (pts_chunks 0)) (BI.Laws.sep_mono (ex_chunks _ _) (ex_chunks _ _)))).trans ?_
  rw [← bigSep_sep', ← bigSep_sep', ← bigSep_sep']
  exact bigSep_mono fun ci _ => key ci

/-- What device `c` holds at launch. -/
def Pre (c : Dev nD) : sProp 𝕄 :=
  iprop(ow c (oS0 c) ∗ (In0 m c 0 ∗ In0 m c 1 ∗ In0 m c 2)
    ∗ ((∃ f, pts c false Finset.univ fullShare f) ∗ (∃ f, pts c true Finset.univ fullShare f))
    ∗ (dutyTok ER (bcell (yp c)) 0 false ∗ dutyTok ER (bcell (zp c)) 0 true)
    ∗ pos c (.reg barr) ∗ cred (tallyAt (bcell c) () 2)
    ∗ (∃ f : S2x256x512.Idx → Elt F .bf16, (qb.view.loc (c : Thread nD τ)) ↦{fullShare} f)
    ∗ (∃ f : Arr F, (oS.view.loc (c : Thread nD τ)) ↦{fullShare} f)
    ∗ (∃ f : S2x256x8.Idx → Elt F .f32, (lS.view.loc (c : Thread nD τ)) ↦{fullShare} f)
    ∗ (Ha0 c 0 ∗ Ha0 c 1) ∗ bigSep Finset.univ fun ci => Tk c ci)

/-- What device `c` holds at the end. -/
def Post (c : Dev nD) : sProp 𝕄 :=
  iprop(ow c 0 ∗ (In2 m c 0 ∗ In2 m c 1 ∗ In2 m c 2) ∗ semVal (bcell c) 0
    ∗ (QB m c ∗ O1 m c 16 ∗ L1 m c 16) ∗ KV m c (sSlot 0) ∗ pts c (!zb c) (sSlot 0) fullShare.left (two m c (!zb c))
    ∗ (Ha2 m c 0 ∗ Ha2 m c 1) ∗ bigSep Finset.univ fun ci => St4 m c ci)

theorem ex_slots (c : Dev nD) :
    (iprop((∃ f, pts c false Finset.univ fullShare f) ∗ (∃ f, pts c true Finset.univ fullShare f)) : sProp 𝕄)
      ⊢ iprop(((∃ f, pts c false (sSlot 0) fullShare f) ∗ (∃ f, pts c true (sSlot 0) fullShare f))
          ∗ ((∃ f, pts c false (sSlot 1) fullShare f) ∗ (∃ f, pts c true (sSlot 1) fullShare f))) := by
  iintro ⟨⟨%f, H⟩, ⟨%g, H'⟩⟩
  ihave H := (Entails.of_eq (pts_slots (F := F) (c := c) (b := false) (q := fullShare) (f := f))) $$ H
  ihave H' := (Entails.of_eq (pts_slots (F := F) (c := c) (b := true) (q := fullShare) (f := g))) $$ H'
  icases H with ⟨H0, H1⟩
  icases H' with ⟨H0', H1'⟩
  isplitl [H0 H0']
  · isplitl [H0]
    · iexists f; iexact H0
    · iexists g; iexact H0'
  · isplitl [H1]
    · iexists f; iexact H1
    · iexists g; iexact H1'

/-- Both slots 0, whole: what the heads read, what is sent from, and the share of the other buffer that lies idle. -/
theorem slots_split (c : Dev nD) :
    (iprop(pts c false (sSlot 0) fullShare (two m c false) ∗ pts c true (sSlot 0) fullShare (two m c true)) : sProp 𝕄)
      ⊢ iprop(KV m c (sSlot 0) ∗ pts c (zb c) (sSlot 0) fullShare.left (two m c (zb c))
          ∗ pts c (!zb c) (sSlot 0) fullShare.left (two m c (!zb c))) := by
  unfold KV
  rw [pts_both m c (c := c) (S := sSlot 0) (q := fullShare.left)]
  iintro ⟨H, H'⟩
  ihave H := (Entails.of_eq (pts_halves (F := F) (c := c) (b := false) (S := sSlot 0) (f := two m c false))) $$ H
  ihave H' := (Entails.of_eq (pts_halves (F := F) (c := c) (b := true) (S := sSlot 0) (f := two m c true))) $$ H'
  icases H with ⟨Hl, Hr⟩
  icases H' with ⟨Hl', Hr'⟩
  iframe Hr Hr' Hl Hl'

theorem heads_start (c : Dev nD) :
    iprop((∃ f : Arr F, (oS.view.loc (c : Thread nD τ)) ↦{fullShare} f)
      ∗ (∃ f : S2x256x8.Idx → Elt F .f32, (lS.view.loc (c : Thread nD τ)) ↦{fullShare} f)) ⊢ iprop(O1 m c 0 ∗ L1 m c 0) := by
  unfold O1 L1
  iintro ⟨⟨%f, H⟩, ⟨%g, H'⟩⟩
  isplitl [H]
  · iexists f
    isplitr; · ipureintro; intro i hi; exact absurd hi (Nat.not_lt_zero _)
    iexact H
  · iexists g
    isplitr; · ipureintro; intro i hi; exact absurd hi (Nat.not_lt_zero _)
    iexact H'

theorem wp_end (c : Dev nD) (Q : PUnit → sProp 𝕄) : Q ⟨⟩ ⊢ WP (F := F) c (.ret ⟨⟩) Q := by
  unfold WP
  rw [wp_ret]
  iintro H
  imodintro
  iexact H

/-- From the barrier to the end. -/
theorem tail_step (c : Dev nD) (Q : PUnit → sProp 𝕄) :
    iprop((records m K ∗ levAts L lv) ∗ ((bigSep Finset.univ fun ci => St1 c ci) ∗ (Hd1 m c 0 ∗ ow c (oZ c 0)))
        ∗ (Ha0 c 0 ∗ Ha0 c 1)
        ∗ ((ow c 0 ∗ (QB m c ∗ O1 m c 16 ∗ L1 m c 16) ∗ KV m c (sSlot 0) ∗ (Ha2 m c 0 ∗ Ha2 m c 1)
            ∗ bigSep Finset.univ fun ci => St4 m c ci) -∗ Q ⟨⟩))
      ⊢ WP c (tailP c) Q := by
  unfold tailP
  iintro ⟨#H, HS, ⟨Ha, Hb⟩, Hk⟩
  iapply (segs_step m K c)
  isplitr; · iexact H
  isplitl [HS]; · iexact HS
  rw [oZ_end, two_fours (fun ci => St2 m c ci)]
  unfold Hd1
  iintro ⟨⟨Hs, Hs'⟩, ⟨HQ, HKV, HO, HL⟩, How⟩
  iapply (half_step m K c 0)
  isplitr; · iexact H
  isplitl [Hs How]; · isplitl [Hs] <;> iassumption
  isplitl [HQ HO HL]; · iframe HQ HO HL
  isplitl [Ha]; · iexact Ha
  iintro ⟨Hs, How, HQ, Ha⟩
  iapply (half_step m K c 1)
  isplitr; · iexact H
  isplitl [Hs' How]; · isplitl [Hs'] <;> iassumption
  isplitl [HQ]; · iexact HQ
  isplitl [Hb]; · iexact Hb
  iintro ⟨Hs', How, HQ, Hb⟩
  unfold Ha1 Ha2
  icases H with ⟨#HR, #Hl⟩
  icases Ha with ⟨Ha, Hac, Hap⟩
  icases Hb with ⟨Hb, Hbc, Hbp⟩
  iapply (outWait_step m K c 0)
  isplitr; · iexact HR
  isplitr; · iexact Hl
  isplitl [Hac]; · iexact Hac
  isplitl [Hap]; · iexact Hap
  isplitl [How]; · iexact How
  iintro ⟨Hac, Hap, How⟩
  iapply (outWait_step m K c 1)
  isplitr; · iexact HR
  isplitr; · iexact Hl
  isplitl [Hbc]; · iexact Hbc
  isplitl [Hbp]; · iexact Hbp
  isplitl [How]; · iexact How
  iintro ⟨Hbc, Hbp, How⟩
  iapply (drains_step m K c)
  isplitr; · isplitr <;> iassumption
  isplitl [Hs Hs' How]
  · isplitr [How]
    · iapply (Entails.of_eq (two_fours (fun ci => St3 m c ci)).symm)
      isplitl [Hs] <;> iassumption
    iexact How
  iintro ⟨HS, How⟩
  iapply (wp_end c Q)
  iapply Hk
  isplitl [How]; · iexact How
  isplitl [HQ]; · iexact HQ
  isplitl [HKV]; · iexact HKV
  isplitr [HS]
  · iframe Ha Hac Hap Hb Hbc Hbp
  iexact HS

/-- The body. -/
theorem body_step (c : Dev nD) (Q : PUnit → sProp 𝕄) :
    iprop((records m K ∗ levAts L lv) ∗ Pre m c ∗ (Post m c -∗ Q ⟨⟩)) ⊢ WP c (cleanP c) Q := by
  unfold cleanP Pre Post
  iintro ⟨#H, ⟨How, HI, Hbuf, Htok, Hp, Hc, Hqb, HoS, HlS, Hha, HT⟩, Hk⟩
  icases H with ⟨#HR, #Hl⟩
  ihave Hbuf := (ex_slots c) $$ Hbuf
  icases Hbuf with ⟨Hs0, Hs1⟩
  iapply (start_step m K c)
  isplitr; · iexact HR
  isplitl [HI]; · iexact HI
  isplitl [Hs1]; · iexact Hs1
  isplitl [Htok]; · iexact Htok
  isplitl [How]; · iexact How
  iintro ⟨⟨HQ, HK, HV⟩, How⟩
  iapply (loads_step m K c)
  isplitr; · iexact HR
  isplitr; · iexact Hl
  isplitl [HK HV]; · isplitl [HK] <;> iassumption
  isplitl [Hs0]; · iexact Hs0
  isplitl [How]; · iexact How
  iintro ⟨⟨HK, HV⟩, Hs0, How⟩
  ihave Hs0 := (slots_split m c) $$ Hs0
  icases Hs0 with ⟨HKV, Hmine, Hidle⟩
  iapply (bar_step m K c)
  isplitr; · iexact HR
  isplitr; · iexact Hl
  isplitl [Hp]; · iexact Hp
  isplitl [Hc]; · iexact Hc
  isplitl [How]; · iexact How
  iintro ⟨Hy, Hz, Hbar, How⟩
  iapply (sends_step m K c)
  isplitr; · isplitr <;> iassumption
  isplitl [HT Hmine Hy Hz How]
  · isplitr [How]
    · iapply (st0_intro m c)
      iframe HT Hmine Hy Hz
    iexact How
  rw [oY_end, add_zero]
  iintro ⟨HS, How⟩
  iapply (query_step m K c)
  isplitr; · iexact HR
  isplitr; · iexact Hl
  isplitl [HQ]; · iexact HQ
  isplitl [Hqb]; · iexact Hqb
  isplitl [How]; · iexact How
  iintro ⟨HQ, Hqb, How⟩
  ihave HOL := (heads_start m c) $$ [HoS HlS]
  · isplitl [HoS] <;> iassumption
  icases HOL with ⟨HO, HL⟩
  iapply (tail_step m K c)
  isplitr; · isplitr <;> iassumption
  isplitl [HS Hqb HKV HO HL How]
  · isplitl [HS]; · iexact HS
    isplitr [How]
    · unfold Hd1
      iframe Hqb HKV HO HL
    iexact How
  isplitl [Hha]; · iexact Hha
  iintro ⟨How, HQ1, HKV, Hha, HS⟩
  iapply Hk
  isplitl [How]; · iexact How
  isplitl [HQ HK HV]; · iframe HQ HK HV
  isplitl [Hbar]; · iexact Hbar
  isplitl [HQ1]; · iexact HQ1
  isplitl [HKV]; · iexact HKV
  isplitl [Hidle]; · iexact Hidle
  isplitl [Hha]; · iexact Hha
  iexact HS

end Cert.KernelIdeal
-- ==== Proof.Exit.lean ====
/- What a device gives back at the end: every scratch buffer whole, every one of its semaphores at zero, the arguments as
   they were and the result written. -/
module

public import proofs.«01_k».proof.Proof.Body

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The semaphores of a device, listed -/

def grp : Fin 8 ⊕ Fin 8 ⊕ Fin 8 ⊕ Fin 8 ⊕ Fin 3 ⊕ Fin 2 → Fin 37
  | .inl i => ⟨i.val, by omega⟩
  | .inr (.inl i) => ⟨8 + i.val, by omega⟩
  | .inr (.inr (.inl i)) => ⟨16 + i.val, by omega⟩
  | .inr (.inr (.inr (.inl i))) => ⟨24 + i.val, by omega⟩
  | .inr (.inr (.inr (.inr (.inl i)))) => ⟨32 + i.val, by omega⟩
  | .inr (.inr (.inr (.inr (.inr i)))) => ⟨35 + i.val, by omega⟩

theorem grp_injective : Function.Injective grp := by
  rintro (a | a | a | a | a | a) (b | b | b | b | b | b) h <;>
    (have h' := congrArg Fin.val h; simp only [grp] at h'
     first
     | exact absurd h' (by omega)
     | (have e : a = b := Fin.ext (by omega)
        rw [e]))
theorem grp_bijective : Function.Bijective grp :=
  (Fintype.bijective_iff_injective_and_card grp).mpr ⟨grp_injective, by simp⟩

theorem sep_eq {A A' B B' : sProp 𝕄} (h : A = A') (h' : B = B') : iprop(A ∗ B) = iprop(A' ∗ B') := by rw [h, h']

/-- A family over the transfer semaphores is its six groups. -/
theorem split37 (Φ : Fin 37 → sProp 𝕄) : bigSep Finset.univ Φ
    = iprop((bigSep Finset.univ fun ci => Φ (ysend ci)) ∗ (bigSep Finset.univ fun ci => Φ (yin ci))
      ∗ (bigSep Finset.univ fun ci => Φ (zsend ci)) ∗ (bigSep Finset.univ fun ci => Φ (zin ci))
      ∗ (Φ (insem 0) ∗ Φ (insem 1) ∗ Φ (insem 2)) ∗ (Φ (outsem 0) ∗ Φ (outsem 1))) := by
  rw [bigSep_univ_equiv (Equiv.ofBijective grp grp_bijective) Φ, bigSep_univ_sum, bigSep_univ_sum, bigSep_univ_sum, bigSep_univ_sum,
    bigSep_univ_sum]
  refine sep_eq (bigSep_congr fun ci _ => congrArg Φ (show grp (.inl ci) = ysend ci from Fin.ext (ysend_val ci).symm)) ?_
  refine sep_eq (bigSep_congr fun ci _ => congrArg Φ (show grp (.inr (.inl ci)) = yin ci from Fin.ext (yin_val ci).symm)) ?_
  refine sep_eq (bigSep_congr fun ci _ => congrArg Φ (show grp (.inr (.inr (.inl ci))) = zsend ci from Fin.ext (zsend_val ci).symm)) ?_
  refine sep_eq (bigSep_congr fun ci _ => congrArg Φ (show grp (.inr (.inr (.inr (.inl ci)))) = zin ci from Fin.ext (zin_val ci).symm)) ?_
  refine sep_eq ?_ ?_
  · rw [bigSep_univ_eq_bigSepL [0, 1, 2] (by decide) (by decide), bigSepL_cons_cons, bigSepL_cons_cons, bigSepL_singleton]; rfl
  · rw [bigSep_univ_eq_bigSepL [0, 1] (by decide) (by decide), bigSepL_cons_cons, bigSepL_singleton]; rfl

def locOf : Unit ⊕ Fin 37 → SemLoc sig
  | .inl _ => .reg barr
  | .inr k => .dma k

theorem locOf_bijective : Function.Bijective locOf := by
  constructor
  · rintro (a | a) (b | b) h
    · rfl
    · exact absurd h (by intro h; cases h)
    · exact absurd h (by intro h; cases h)
    · have : a = b := by injection h
      rw [this]
  · rintro (k | k)
    · exact ⟨.inl (), congrArg SemLoc.reg (by revert k; decide)⟩
    · exact ⟨.inr k, rfl⟩

/-- A family over all the semaphores: the barrier's member, and the transfer semaphores'. -/
theorem splitAll (Φ : SemLoc sig → sProp 𝕄) : bigSep Finset.univ Φ
    = iprop(Φ (.reg barr) ∗ bigSep Finset.univ fun k : Fin 37 => Φ (.dma k)) := by
  rw [bigSep_univ_equiv (Equiv.ofBijective locOf locOf_bijective) Φ, bigSep_univ_sum, Finset.univ_unique, bigSep_singleton]
  rfl

abbrev osem : Fin 37 → SemLoc sig := fun k => .dma k

abbrev owns37 (c : Dev nD) : sProp 𝕄 :=
  Pipeline.ownSems0 (Ix := Unit) (Name := ℕ) (U := UU) (Lvl := ℕ) (Val := Elt F) (τ := τ) osem c

theorem unscoped_eq (c : Dev nD) : (unscopedSems0 c : sProp 𝕄) = semVal (bcell c) 0 := by
  unfold unscopedSems0; rw [bigSep_eq_bigSepL_of_eq [SemLoc.reg barr] (by decide) (by decide)]; rfl

/-! ## The buffers rejoined -/

theorem kv_join (c : Dev nD) :
    (iprop(KV m c (sSlot 0) ∗ pts c (!zb c) (sSlot 0) fullShare.left (two m c (!zb c))
      ∗ (bigSep Finset.univ fun ci : Fin 8 => pts c (zb c) (sChunk 0 ci) fullShare.left (two m c (zb c)))
      ∗ (KV m c (sWin 1 0) ∗ KV m c (sWin 1 1))
      ∗ (bigSep Finset.univ fun ci : Fin 8 => pts c false (sChunk 1 ci) fullShare.left (two m c false))
      ∗ (bigSep Finset.univ fun ci : Fin 8 => pts c true (sChunk 1 ci) fullShare.left (two m c true))) : sProp 𝕄)
      ⊢ iprop(pts c false Finset.univ fullShare (two m c false) ∗ pts c true Finset.univ fullShare (two m c true)) := by
  rw [← pts_chunks 0, ← pts_chunks 1, ← pts_chunks 1, pts_slots, pts_slots, pts_halves (S := sSlot 0), pts_halves (S := sSlot 1),
    pts_halves (S := sSlot 0), pts_halves (S := sSlot 1), pts_wins (b := false) (q := fullShare.right) 1,
    pts_wins (b := true) (q := fullShare.right) 1]
  unfold KV
  iintro ⟨⟨Ha, Hb⟩, Hi, Hm, ⟨⟨Hc, Hd⟩, ⟨He, Hf⟩⟩, Hg, Hh⟩
  ihave H := (Entails.of_eq (pts_both m c (c := c) (S := sSlot 0) (q := fullShare.left))) $$ [Hi Hm]
  · isplitl [Hm] <;> iassumption
  icases H with ⟨Hm, Hi⟩
  iframe Ha Hb Hc Hd He Hf Hg Hh Hm Hi

theorem half_union : (Finset.univ : Finset S2x256x512.Idx) = sHalf 0 ∪ sHalf 1 := by
  ext i
  have hb := bounds3 i
  rw [Finset.mem_union, mem_half, mem_half]
  refine ⟨fun _ => ?_, fun _ => Finset.mem_univ _⟩
  show (i 0).val = 0 ∨ (i 0).val = 1
  omega
theorem half_disj : Disjoint (sHalf 0) (sHalf 1) := by
  rw [Finset.disjoint_left]
  intro i h0 h1
  rw [mem_half] at h0 h1
  rw [h0] at h1
  exact absurd h1 (by decide)

theorem sO_halves (c : Dev nD) (f : Arr F) : ((sO.view.loc (c : Thread nD τ)) ↦{fullShare} f : sProp 𝕄)
    = iprop(((sO.view.loc (c : Thread nD τ)) ↦[sHalf 0]{fullShare} f) ∗ ((sO.view.loc (c : Thread nD τ)) ↦[sHalf 1]{fullShare} f)) :=
  (congrArg (fun S => ((sO.view.loc (c : Thread nD τ)) ↦[S]{fullShare} f : sProp 𝕄)) half_union).trans
    (eqv (pointsTo_union (ℓ := sO.view.loc (c : Thread nD τ)) half_disj))
theorem hO_halves (c : Dev nD) (f : Arr F) : ((hO.view.loc (c : Thread nD τ)) ↦{fullShare} f : sProp 𝕄)
    = iprop(((hO.view.loc (c : Thread nD τ)) ↦[sHalf 0]{fullShare} f) ∗ ((hO.view.loc (c : Thread nD τ)) ↦[sHalf 1]{fullShare} f)) :=
  (congrArg (fun S => ((hO.view.loc (c : Thread nD τ)) ↦[S]{fullShare} f : sProp 𝕄)) half_union).trans
    (eqv (pointsTo_union (ℓ := hO.view.loc (c : Thread nD τ)) half_disj))

theorem pts_false (c : Dev nD) (f : Two F) : (pts c false Finset.univ fullShare f : sProp 𝕄) = ((kf.view.loc (c : Thread nD τ)) ↦{fullShare} f) := rfl
theorem pts_true (c : Dev nD) (f : Two F) : (pts c true Finset.univ fullShare f : sProp 𝕄) = ((vf.view.loc (c : Thread nD τ)) ↦{fullShare} f) := rfl

/-- The arguments and the result at the end. -/
def Arrays (c : Dev nD) : sProp 𝕄 :=
  iprop((hQ.view.loc (c : Thread nD τ) ↦{fullShare} argQ m c) ∗ (hK.view.loc (c : Thread nD τ) ↦{fullShare} argK m c)
    ∗ (hV.view.loc (c : Thread nD τ) ↦{fullShare} argV m c) ∗ (hO.view.loc (c : Thread nD τ) ↦{fullShare} out m c))

/-- What is left of every chunk. -/
theorem st4_split (c : Dev nD) : (bigSep Finset.univ fun ci => St4 m c ci)
    ⊢ iprop((bigSep Finset.univ fun ci : Fin 8 => pts c false (sChunk 1 ci) fullShare.left (two m c false))
      ∗ (bigSep Finset.univ fun ci : Fin 8 => pts c true (sChunk 1 ci) fullShare.left (two m c true))
      ∗ (bigSep Finset.univ fun ci : Fin 8 => pts c (zb c) (sChunk 0 ci) fullShare.left (two m c (zb c)))
      ∗ (bigSep Finset.univ fun ci : Fin 8 => zero c (ysend ci)) ∗ (bigSep Finset.univ fun ci : Fin 8 => zero c (yin ci))
      ∗ (bigSep Finset.univ fun ci : Fin 8 => zero c (zsend ci)) ∗ (bigSep Finset.univ fun ci : Fin 8 => zero c (zin ci))) := by
  unfold St4
  simp only [bigSep_sep']
  iintro ⟨⟨H1, H2⟩, H3, H4, H5, H6, H7⟩
  iframe H1 H2 H3 H4 H5 H6 H7

theorem exit_step (c : Dev nD) :
    Post m c ⊢ iprop(ow c 0 ∗ (unscopedSems0 c ∗ Arrays m c) ∗ owns37 c ∗ Pipeline.scopedRest cfg0.spec c) := by
  rw [scopedRest0_eq, unscoped_eq]
  unfold Post owns37 Pipeline.ownSems0 Ha2 outArr In2 inPay QB O1 L1 Arrays
  rw [split37]
  iintro ⟨How, ⟨⟨Hz0, Hq, Hq'⟩, ⟨Hz1, Hk, Hk'⟩, ⟨Hz2, Hv, Hv'⟩⟩, Hb, ⟨Hqb, ⟨%f1, -, HO⟩, ⟨%f2, -, HL⟩⟩, HKV, Hi,
    ⟨⟨Hw0, Hz3, Ho0, Hs0⟩, ⟨Hw1, Hz4, Ho1, Hs1⟩⟩, HS⟩
  ihave HS := (st4_split m c) $$ HS
  icases HS with ⟨Hf, Ht, Hm, Hys, Hyi, Hzs, Hzi⟩
  ihave Hkv := (kv_join m c) $$ [HKV Hi Hm Hw0 Hw1 Hf Ht]
  · iframe HKV Hi Hm Hw0 Hw1 Hf Ht
  icases Hkv with ⟨Hkf, Hvf⟩
  ihave Hkf := (Entails.of_eq (pts_false (F := F) c (two m c false))) $$ Hkf
  ihave Hvf := (Entails.of_eq (pts_true (F := F) c (two m c true))) $$ Hvf
  ihave HoA := (Entails.of_eq (hO_halves (F := F) c (out m c)).symm) $$ [Ho0 Ho1]
  · isplitl [Ho0] <;> iassumption
  ihave HsA := (Entails.of_eq (sO_halves (F := F) c (out m c)).symm) $$ [Hs0 Hs1]
  · isplitl [Hs0] <;> iassumption
  isplitl [How]; · iexact How
  isplitl [Hb Hq' Hk' Hv' HoA]
  · isplitl [Hb]; · iexact Hb
    iframe Hq' Hk' Hv' HoA
  isplitl [Hys Hyi Hzs Hzi Hz0 Hz1 Hz2 Hz3 Hz4]
  · iframe Hys Hyi Hzs Hzi Hz0 Hz1 Hz2 Hz3 Hz4
  isplitl [Hq]; · iexists (argQ m c); iexact Hq
  isplitl [Hk]; · iexists (argK m c); iexact Hk
  isplitl [Hv]; · iexists (argV m c); iexact Hv
  isplitl [HsA]; · iexists (out m c); iexact HsA
  isplitl [Hqb]; · iexists (qs c (argQ m c)); iexact Hqb
  isplitl [Hkf]; · iexists (two m c false); iexact Hkf
  isplitl [Hvf]; · iexists (two m c true); iexact Hvf
  isplitl [HO]; · iexists f1; iexact HO
  iexists f2; iexact HL

end Cert.KernelIdeal
-- ==== Proof.Launch.lean ====
/- The launch: every semaphore's cell set up at once, the tokens dealt to the devices that pay with them, and the run of the
   whole program. -/
module

public import proofs.«01_k».proof.Proof.Exit
public import Idealize.ShloMosaic.Lib.Pipeline.CollectiveSegs

@[expose] public section

set_option synthInstance.maxSize 4096

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The cells and the tokens -/

theorem cell_injective : Function.Injective (fun x : Dev nD × SemLoc sig => cell x.1 x.2) := by
  rintro ⟨c, s⟩ ⟨c', s'⟩ h
  have h1 : c = c' := congrArg (fun g : GSem nD τ sig => g.1.1) h
  have h2 : s = s' := congrArg Prod.snd h
  rw [h1, h2]

def allCells : Finset (GSem nD τ sig) := Finset.univ.map ⟨fun x : Dev nD × SemLoc sig => cell x.1 x.2, cell_injective⟩

def tokOf : Dev nD × (Bool ⊕ Fin 37) → GSem nD τ sig × ℕ × Bool
  | (c, .inl d) => (bcell c, 0, d)
  | (c, .inr k) => (dcell c k, 0, false)

theorem tokOf_injective : Function.Injective tokOf := by
  rintro ⟨c, a | a⟩ ⟨c', b | b⟩ h
  · have h1 : c = c' := congrArg (fun g : GSem nD τ sig × ℕ × Bool => g.1.1.1) h
    have h2 : a = b := congrArg (fun g : GSem nD τ sig × ℕ × Bool => g.2.2) h
    rw [h1, h2]
  · exact absurd (congrArg (fun g : GSem nD τ sig × ℕ × Bool => g.1.2) h) (fun h' => by cases h')
  · exact absurd (congrArg (fun g : GSem nD τ sig × ℕ × Bool => g.1.2) h) (fun h' => by cases h')
  · have h1 : c = c' := congrArg (fun g : GSem nD τ sig × ℕ × Bool => g.1.1.1) h
    have h2 : (SemLoc.dma a : SemLoc sig) = .dma b := congrArg (fun g : GSem nD τ sig × ℕ × Bool => g.1.2) h
    have h3 : a = b := by injection h2
    rw [h1, h3]

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens that pay device `c`'s own cells. -/
def toks (c : Dev nD) : sProp 𝕄 :=
  iprop((dutyTok ER (bcell c) 0 false ∗ dutyTok ER (bcell c) 0 true) ∗ bigSep Finset.univ fun k : Fin 37 => tok c k)

/-- What the launch deals device `c`. -/
def G (c : Dev nD) : sProp 𝕄 :=
  iprop((bigSep Finset.univ fun s : SemLoc sig => roundState ER (Rd m) (cell c s) 0)
    ∗ (bigSep Finset.univ fun s : SemLoc sig => iprop(pos c s ∗ reached ER (cell c s) 0)) ∗ toks c)

theorem deal : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun s : SemLoc sig => Φ (cell c s) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_eq_bigSepL [false, true] (by decide) (by decide), bigSepL_cons_cons, bigSepL_singleton]
    rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem zeros_eq (c : Dev nD) :
    (iprop(owns37 c ∗ unscopedSems0 c) : sProp 𝕄) ⊢ bigSep Finset.univ fun s : SemLoc sig => semVal (cell c s) 0 := by
  rw [unscoped_eq, splitAll]
  iintro ⟨H, HB⟩
  isplitl [HB]; · iexact HB
  unfold owns37 Pipeline.ownSems0
  iexact H

theorem setup_one (c : Dev nD) :
    iprop(owns37 c ∗ unscopedSems0 c ∗ G m c)
      ⊢ |={Set.univ}=> iprop((bigSep Finset.univ fun s : SemLoc sig => iprop(∃ κ : ℕ, cellInv ER (Rd m) κ (cell c s)))
          ∗ (bigSep Finset.univ fun s : SemLoc sig => iprop(pos c s ∗ reached ER (cell c s) 0)) ∗ toks c) := by
  have key : (iprop((bigSep Finset.univ fun s : SemLoc sig => semVal (cell c s) 0)
      ∗ bigSep Finset.univ fun s : SemLoc sig => roundState ER (Rd m) (cell c s) 0) : sProp 𝕄)
      ⊢ |={Set.univ}=> bigSep Finset.univ fun s : SemLoc sig => iprop(∃ κ : ℕ, cellInv ER (Rd m) κ (cell c s)) := by
    rw [← bigSep_sep']
    exact (bigSep_mono fun s _ => (Rounds.body_intro ER (Rd m) (cell c s)).trans inv_alloc).trans (bigSep_fupd _ _)
  unfold G
  iintro ⟨Hos, Hus, Hst, Hat, Htok⟩
  ihave Hv := (zeros_eq (F := F) c) $$ [Hos Hus]
  · isplitl [Hos] <;> iassumption
  imod key $$ [Hv Hst] with Hinv
  · isplitl [Hv] <;> iassumption
  imodintro
  isplitl [Hinv]; · iexact Hinv
  isplitl [Hat]; · iexact Hat
  iexact Htok

/-! ## The tokens dealt -/

/-- The device whose cell `k` device `c` pays. -/
def tgt (k : Fin 37) (c : Dev nD) : Dev nD :=
  if k.val < 8 then c else if k.val < 16 then yp c else if k.val < 24 then c else if k.val < 32 then zp c else c
theorem tgt_tgt (k : Fin 37) : Function.Involutive (tgt k) := by
  intro c
  unfold tgt
  split
  · rfl
  split
  · exact yp_yp c
  split
  · rfl
  split
  · exact zp_zp c
  · rfl
theorem tgt_ysend (c : Dev nD) (ci : Fin 8) : tgt (ysend ci) c = c := by
  have h := ysend_val ci; unfold tgt; rw [if_pos (by omega)]
theorem tgt_yin (c : Dev nD) (ci : Fin 8) : tgt (yin ci) c = yp c := by
  have h := yin_val ci; unfold tgt; rw [if_neg (by omega), if_pos (by omega)]
theorem tgt_zsend (c : Dev nD) (ci : Fin 8) : tgt (zsend ci) c = c := by
  have h := zsend_val ci; unfold tgt; rw [if_neg (by omega), if_neg (by omega), if_pos (by omega)]
theorem tgt_zin (c : Dev nD) (ci : Fin 8) : tgt (zin ci) c = zp c := by
  have h := zin_val ci; unfold tgt; rw [if_neg (by omega), if_neg (by omega), if_neg (by omega), if_pos (by omega)]
theorem tgt_insem (c : Dev nD) (j : Fin 3) : tgt (insem j) c = c := by
  have h := insem_val j
  unfold tgt; rw [if_neg (by omega), if_neg (by omega), if_neg (by omega), if_neg (by omega)]
theorem tgt_outsem (c : Dev nD) (j : Fin 2) : tgt (outsem j) c = c := by
  have h := outsem_val j
  unfold tgt; rw [if_neg (by omega), if_neg (by omega), if_neg (by omega), if_neg (by omega)]

/-- The tokens device `c` pays with. -/
def pays (c : Dev nD) : sProp 𝕄 :=
  iprop((dutyTok ER (bcell (yp c)) 0 false ∗ dutyTok ER (bcell (zp c)) 0 true) ∗ bigSep Finset.univ fun k : Fin 37 => tok (tgt k c) k)

theorem toks_dealt : (bigSep Finset.univ fun c : Dev nD => (toks c : sProp 𝕄)) ⊢ bigSep Finset.univ fun c : Dev nD => pays c := by
  have hk : (bigSep Finset.univ fun c : Dev nD => bigSep Finset.univ fun k : Fin 37 => (tok c k : sProp 𝕄))
      = bigSep Finset.univ fun c : Dev nD => bigSep Finset.univ fun k : Fin 37 => tok (tgt k c) k := by
    rw [Pipeline.bigSep_univ_comm (fun (c : Dev nD) (k : Fin 37) => (tok c k : sProp 𝕄)), Pipeline.bigSep_univ_comm (fun (c : Dev nD) (k : Fin 37) => (tok (tgt k c) k : sProp 𝕄))]
    exact bigSep_congr fun k _ => bigSep_univ_equiv ((tgt_tgt k).toPerm (tgt k)) (fun c : Dev nD => (tok c k : sProp 𝕄))
  unfold toks pays
  rw [bigSep_sep', bigSep_sep', bigSep_sep', bigSep_sep', hk,
    bigSep_univ_equiv (Function.Involutive.toPerm yp yp_yp) (fun c : Dev nD => (dutyTok ER (bcell c) 0 false : sProp 𝕄)),
    bigSep_univ_equiv (Function.Involutive.toPerm zp zp_zp) (fun c : Dev nD => (dutyTok ER (bcell c) 0 true : sProp 𝕄))]
  exact BI.Entails.refl _

/-- What stays with device `c`. -/
def mine (c : Dev nD) : sProp 𝕄 := iprop((bigSep Finset.univ fun s : SemLoc sig => pos c s) ∗ pays c)
def G' (c : Dev nD) : sProp 𝕄 := iprop(∃ K, records m K ∗ mine c)

theorem regroup :
    (bigSep Finset.univ fun c : Dev nD => iprop((bigSep Finset.univ fun s : SemLoc sig => iprop(∃ κ : ℕ, cellInv ER (Rd m) κ (cell c s)))
          ∗ (bigSep Finset.univ fun s : SemLoc sig => iprop(pos c s ∗ reached ER (cell c s) 0)) ∗ toks c) : sProp 𝕄)
      ⊢ bigSep Finset.univ (G' m) := by
  have key (K : Dev nD × SemLoc sig → ℕ) (c : Dev nD) : iprop(records m K ∗ mine c) ⊢ G' m c := by
    unfold G'
    iintro H
    iexists K
    iexact H
  have key2 (K : Dev nD × SemLoc sig → ℕ) : iprop(records m K ∗ bigSep Finset.univ fun c : Dev nD => mine c) ⊢ bigSep Finset.univ (G' m) := by
    refine (sep_mono_left (BI.bigSep_of_persistent (Finset.univ : Finset (Dev nD)) (records m K))).trans ?_
    rw [← bigSep_sep' Finset.univ (fun _ : Dev nD => records m K) (fun c : Dev nD => (mine c : sProp 𝕄))]
    exact bigSep_mono fun c _ => key K c
  rw [bigSep_sep', bigSep_sep', ← bigSep_univ_prod (fun x : Dev nD × SemLoc sig => iprop(∃ κ : ℕ, cellInv ER (Rd m) κ (cell x.1 x.2))),
    bigSep_congr (s := Finset.univ) (fun (c : Dev nD) _ => bigSep_sep' Finset.univ (fun s : SemLoc sig => (pos c s : sProp 𝕄)) (fun s => reached ER (cell c s) 0)),
    bigSep_sep', ← bigSep_univ_prod (fun x : Dev nD × SemLoc sig => (reached ER (cell x.1 x.2) 0 : sProp 𝕄))]
  iintro ⟨HI, ⟨Hat, #HR⟩, Htok⟩
  ihave HK := (BI.bigSep_exists_pi Finset.univ (fun (x : Dev nD × SemLoc sig) (κ : ℕ) => (cellInv ER (Rd m) κ (cell x.1 x.2) : sProp 𝕄))) $$ HI
  icases HK with ⟨%K, #HI⟩
  ihave Htk := (toks_dealt (F := F)) $$ Htok
  iapply (key2 K)
  isplitr
  · unfold records; isplitl; · iexact HI
    iexact HR
  · iapply (Entails.of_eq (bigSep_sep' Finset.univ (fun c : Dev nD => bigSep Finset.univ fun s : SemLoc sig => (pos c s : sProp 𝕄)) pays).symm)
    isplitl [Hat]; · iexact Hat
    iexact Htk

/-- Every semaphore of every device set up at once. -/
theorem setup : (bigSep Finset.univ fun c => iprop(owns37 c ∗ unscopedSems0 c ∗ G m c) : sProp 𝕄)
    ⊢ |={Set.univ}=> bigSep Finset.univ (G' m) :=
  ((bigSep_mono fun c _ => setup_one m c).trans (bigSep_fupd _ _)).trans (BI.fupd_mono (regroup m))

/-! ## What the devices are owed at launch -/

theorem cell_ne {c d : Dev nD} {s s' : SemLoc sig} (h : s ≠ s') : cell c s ≠ cell d s' := fun h' => h (congrArg Prod.snd h')
theorem cell_dev {c d : Dev nD} {s s' : SemLoc sig} (h : cell c s = cell d s') : c = d := congrArg (fun g : GSem nD τ sig => g.1.1) h
theorem bar_ne (k : DmaSem sig) : (SemLoc.reg barr : SemLoc sig) ≠ .dma k := fun h => by cases h
theorem dma_inj {k k' : DmaSem sig} (h : (SemLoc.dma k : SemLoc sig) = .dma k') : k.val = k'.val := by
  injection h with h; rw [h]

theorem oY_at (d : Dev nD) (g : GSem nD τ sig) : oY d 0 g () = ∑ ci : Fin 8, if g = dcell (yp d) (yin ci) then nC else 0 := by
  unfold oY
  rw [Finset.sum_apply, Finsupp.finset_sum_apply, show (Finset.univ : Finset (Fin 8)).filter (fun ci => 0 ≤ ci.val) = Finset.univ from by decide]
  refine Finset.sum_congr rfl fun ci _ => ?_
  rw [tallyAt_apply]
  by_cases h : g = dcell (yp d) (yin ci)
  · rw [if_pos ⟨h, rfl⟩, if_pos h]
  · rw [if_neg fun h' => h h'.1, if_neg h]
theorem oZ_at (d : Dev nD) (g : GSem nD τ sig) : oZ d 0 g () = ∑ ci : Fin 8, if g = dcell (zp d) (zin ci) then nC else 0 := by
  unfold oZ
  rw [Finset.sum_apply, Finsupp.finset_sum_apply, show (Finset.univ : Finset (Fin 8)).filter (fun ci => 0 ≤ ci.val) = Finset.univ from by decide]
  refine Finset.sum_congr rfl fun ci _ => ?_
  rw [tallyAt_apply]
  by_cases h : g = dcell (zp d) (zin ci)
  · rw [if_pos ⟨h, rfl⟩, if_pos h]
  · rw [if_neg fun h' => h h'.1, if_neg h]
theorem one_at (g g' : GSem nD τ sig) : (tallyAt g' () 1 : CellTallies nD τ sig Unit) g () = if g = g' then 1 else 0 := by
  rw [tallyAt_apply]
  by_cases h : g = g'
  · rw [if_pos ⟨h, rfl⟩, if_pos h]
  · rw [if_neg fun h' => h h'.1, if_neg h]
theorem oS0_at (d : Dev nD) (g : GSem nD τ sig) : oS0 d g ()
    = ((oZ d 0 g () + oY d 0 g ()) + (if g = bcell (zp d) then 1 else 0)) + (if g = bcell (yp d) then 1 else 0) := by
  unfold oS0 oS1 oS2
  rw [Pi.add_apply, Finsupp.add_apply, Pi.add_apply, Finsupp.add_apply, Pi.add_apply, Finsupp.add_apply, one_at, one_at]

theorem sum_at {n : ℕ} {p : Dev nD → Dev nD} (hp : ∀ d, p (p d) = d) (c : Dev nD) (s : SemLoc sig) :
    (∑ d : Dev nD, if cell c s = cell (p d) s then n else 0) = n := by
  rw [Finset.sum_eq_single (p c)]
  · rw [hp, if_pos rfl]
  · intro d _ hd
    exact if_neg fun h => hd (by rw [cell_dev h, hp])
  · intro h; exact absurd (Finset.mem_univ _) h

theorem owed_bar (c : Dev nD) : ∑ d : Dev nD, oS0 d (bcell c) () = 2 := by
  have h (d : Dev nD) : oS0 d (bcell c) () = (if bcell c = bcell (zp d) then 1 else 0) + (if bcell c = bcell (yp d) then 1 else 0) := by
    rw [oS0_at, oY_at, oZ_at, Finset.sum_eq_zero fun ci _ => if_neg (cell_ne (bar_ne _)),
      Finset.sum_eq_zero fun ci _ => if_neg (cell_ne (bar_ne _)), Nat.add_zero, Nat.zero_add]
  rw [Finset.sum_congr rfl fun d _ => h d, Finset.sum_add_distrib, sum_at zp_zp, sum_at yp_yp]

theorem owed_yin (c : Dev nD) (ci : Fin 8) : ∑ d : Dev nD, oS0 d (dcell c (yin ci)) () = nC := by
  have h (d : Dev nD) : oS0 d (dcell c (yin ci)) () = if dcell c (yin ci) = dcell (yp d) (yin ci) then nC else 0 := by
    rw [oS0_at, oY_at, oZ_at, if_neg (cell_ne (bar_ne _).symm), if_neg (cell_ne (bar_ne _).symm), Nat.add_zero,
      Finset.sum_eq_zero fun x _ => if_neg (cell_ne fun h => by have h := dma_inj h; rw [yin_val, zin_val] at h; omega), Nat.zero_add]
    refine Finset.sum_eq_single ci (fun x _ hx => if_neg (cell_ne fun h => hx ?_)) (fun h => absurd (Finset.mem_univ _) h)
    have h := dma_inj h; rw [yin_val, yin_val] at h; exact Fin.ext (by omega)
  rw [Finset.sum_congr rfl fun d _ => h d, sum_at yp_yp]

theorem owed_zin (c : Dev nD) (ci : Fin 8) : ∑ d : Dev nD, oS0 d (dcell c (zin ci)) () = nC := by
  have h (d : Dev nD) : oS0 d (dcell c (zin ci)) () = if dcell c (zin ci) = dcell (zp d) (zin ci) then nC else 0 := by
    rw [oS0_at, oY_at, oZ_at, if_neg (cell_ne (bar_ne _).symm), if_neg (cell_ne (bar_ne _).symm), Nat.add_zero,
      Finset.sum_eq_zero (f := fun x => if dcell c (zin ci) = dcell (yp d) (yin x) then nC else 0)
        fun x _ => if_neg (cell_ne fun h => by have h := dma_inj h; rw [yin_val, zin_val] at h; omega), Nat.add_zero]
    refine Finset.sum_eq_single ci (fun x _ hx => if_neg (cell_ne fun h => hx ?_)) (fun h => absurd (Finset.mem_univ _) h)
    have h := dma_inj h; rw [zin_val, zin_val] at h; exact Fin.ext (by omega)
  rw [Finset.sum_congr rfl fun d _ => h d, sum_at zp_zp]

theorem launch_at (g : GSem nD τ sig) (n : ℕ) (h : ∑ d : Dev nD, oS0 d g () = n) :
    tallyOn g (launchCredit (Pipeline.owing oS0) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred oS0 c : sProp 𝕄)
    ⊢ iprop(cred (tallyAt (bcell c) () 2) ∗ (bigSep Finset.univ fun ci => crd c (yin ci)) ∗ (bigSep Finset.univ fun ci => crd c (zin ci))) := by
  have hy : (bigSep Finset.univ fun ci : Fin 8 => (cred (tallyOn (dcell c (yin ci)) (launchCredit (Pipeline.owing oS0) 0 (dcell c (yin ci)))) : sProp 𝕄))
      = bigSep Finset.univ fun ci => crd c (yin ci) :=
    bigSep_congr fun ci _ => by rw [launch_at _ _ (owed_yin c ci)]; unfold crd; rw [amt_yin]
  have hz : (bigSep Finset.univ fun ci : Fin 8 => (cred (tallyOn (dcell c (zin ci)) (launchCredit (Pipeline.owing oS0) 0 (dcell c (zin ci)))) : sProp 𝕄))
      = bigSep Finset.univ fun ci => crd c (zin ci) :=
    bigSep_congr fun ci _ => by rw [launch_at _ _ (owed_zin c ci)]; unfold crd; rw [amt_zin]
  unfold Pipeline.launchCred
  rw [splitAll, split37, launch_at _ _ (owed_bar c), hy, hz]
  iintro ⟨HB, -, Hy, -, Hz, -⟩
  iframe HB Hy Hz

/-! ## What a device holds at launch -/

theorem tk_intro (c : Dev nD) :
    (iprop((bigSep Finset.univ fun ci : Fin 8 => tok c (ysend ci)) ∗ (bigSep Finset.univ fun ci : Fin 8 => tok (yp c) (yin ci))
      ∗ (bigSep Finset.univ fun ci : Fin 8 => tok c (zsend ci)) ∗ (bigSep Finset.univ fun ci : Fin 8 => tok (zp c) (zin ci))
      ∗ (bigSep Finset.univ fun ci : Fin 8 => pos c (.dma (ysend ci))) ∗ (bigSep Finset.univ fun ci : Fin 8 => pos c (.dma (yin ci)))
      ∗ (bigSep Finset.univ fun ci : Fin 8 => pos c (.dma (zsend ci))) ∗ (bigSep Finset.univ fun ci : Fin 8 => pos c (.dma (zin ci)))
      ∗ (bigSep Finset.univ fun ci : Fin 8 => crd c (yin ci)) ∗ (bigSep Finset.univ fun ci : Fin 8 => crd c (zin ci))) : sProp 𝕄)
      ⊢ bigSep Finset.univ fun ci : Fin 8 => Tk c ci := by
  unfold Tk
  simp only [bigSep_sep']
  exact BI.Entails.refl _

theorem pays_eq (c : Dev nD) : (pays c : sProp 𝕄) = iprop((dutyTok ER (bcell (yp c)) 0 false ∗ dutyTok ER (bcell (zp c)) 0 true)
    ∗ (bigSep Finset.univ fun ci : Fin 8 => tok c (ysend ci)) ∗ (bigSep Finset.univ fun ci : Fin 8 => tok (yp c) (yin ci))
    ∗ (bigSep Finset.univ fun ci : Fin 8 => tok c (zsend ci)) ∗ (bigSep Finset.univ fun ci : Fin 8 => tok (zp c) (zin ci))
    ∗ (tok c (insem 0) ∗ tok c (insem 1) ∗ tok c (insem 2)) ∗ (tok c (outsem 0) ∗ tok c (outsem 1))) := by
  unfold pays
  rw [split37, tgt_insem, tgt_insem, tgt_insem, tgt_outsem, tgt_outsem]
  refine sep_eq rfl ?_
  refine sep_eq (bigSep_congr fun ci _ => by rw [tgt_ysend]) ?_
  refine sep_eq (bigSep_congr fun ci _ => by rw [tgt_yin]) ?_
  refine sep_eq (bigSep_congr fun ci _ => by rw [tgt_zsend]) ?_
  exact sep_eq (bigSep_congr fun ci _ => by rw [tgt_zin]) rfl

/-- What a device holds beside its share of the records: its arrays, its scratch, its tokens, positions and credits. -/
def held (c : Dev nD) : sProp 𝕄 :=
  iprop(mine c ∗ Pipeline.launchCred oS0 c ∗ Pipeline.scopedRest cfg0.spec c
    ∗ Pipeline.unscopedRestP Pipeline.Prefetch.none cfg0.spec c (fun b => m ((c : Thread nD τ).loc b)))

theorem pre_intro (c : Dev nD) : iprop(ow c (oS0 c) ∗ held m c) ⊢ Pre m c := by
  unfold held mine
  rw [Pipeline.unscopedRestP_none, scopedRest0_eq, unscopedRest0_eq, splitAll, split37, pays_eq]
  unfold Pre In0 Ha0
  iintro ⟨How, ⟨⟨Hpb, Hpys, Hpyi, Hpzs, Hpzi, ⟨Hpi0, Hpi1, Hpi2⟩, ⟨Hpo0, Hpo1⟩⟩, Hbar, Htys, Htyi, Htzs, Htzi, ⟨Hti0, Hti1, Hti2⟩, ⟨Hto0, Hto1⟩⟩,
    Hcr, ⟨HsQ, HsK, HsV, ⟨%fo, HsO⟩, Hqb, ⟨%fk, Hkf⟩, ⟨%fv, Hvf⟩, HoS, HlS⟩, ⟨HhQ, HhK, HhV, HhO⟩⟩
  ihave Hcr := (creds (F := F) c) $$ Hcr
  icases Hcr with ⟨Hcb, Hcy, Hcz⟩
  ihave HsO := (Entails.of_eq (sO_halves (F := F) c fo)) $$ HsO
  icases HsO with ⟨HsO0, HsO1⟩
  ihave HhO := (Entails.of_eq (hO_halves (F := F) c (m ((c : Thread nD τ).loc main_v1)))) $$ HhO
  icases HhO with ⟨HhO0, HhO1⟩
  ihave Hkf := (Entails.of_eq (pts_false (F := F) c fk).symm) $$ Hkf
  ihave Hvf := (Entails.of_eq (pts_true (F := F) c fv).symm) $$ Hvf
  ihave HT := (tk_intro (F := F) c) $$ [Htys Htyi Htzs Htzi Hpys Hpyi Hpzs Hpzi Hcy Hcz]
  · iframe Htys Htyi Htzs Htzi Hpys Hpyi Hpzs Hpzi Hcy Hcz
  isplitl [How]; · iexact How
  isplitl [Hti0 Hti1 Hti2 Hpi0 Hpi1 Hpi2 HsQ HsK HsV HhQ HhK HhV]
  · isplitl [Hti0 Hpi0 HsQ HhQ]
    · isplitl [Hti0]; · iexact Hti0
      isplitl [Hpi0]; · iexact Hpi0
      isplitl [HsQ]; · iexact HsQ
      iexact HhQ
    isplitl [Hti1 Hpi1 HsK HhK]
    · isplitl [Hti1]; · iexact Hti1
      isplitl [Hpi1]; · iexact Hpi1
      isplitl [HsK]; · iexact HsK
      iexact HhK
    · isplitl [Hti2]; · iexact Hti2
      isplitl [Hpi2]; · iexact Hpi2
      isplitl [HsV]; · iexact HsV
      iexact HhV
  isplitl [Hkf Hvf]
  · isplitl [Hkf]
    · iexists fk; iexact Hkf
    · iexists fv; iexact Hvf
  isplitl [Hbar]; · iexact Hbar
  isplitl [Hpb]; · iexact Hpb
  isplitl [Hcb]; · iexact Hcb
  isplitl [Hqb]; · iexact Hqb
  isplitl [HoS]; · iexact HoS
  isplitl [HlS]; · iexact HlS
  isplitr [HT]
  · isplitl [HsO0 HhO0 Hto0 Hpo0]
    · isplitl [HsO0]; · iexists fo; iexact HsO0
      isplitl [HhO0]; · iexists (m ((c : Thread nD τ).loc main_v1)); iexact HhO0
      isplitl [Hto0] <;> iassumption
    · isplitl [HsO1]; · iexists fo; iexact HsO1
      isplitl [HhO1]; · iexists (m ((c : Thread nD τ).loc main_v1)); iexact HhO1
      isplitl [Hto1] <;> iassumption
  iexact HT

/-! ## The run -/

variable (ρ : Dev nD → PrngReg)

def dats (_ : Fin 1) (c : Dev nD) : Pipeline.Dat τ (Elt F) Unit ℕ UU ℕ cfg0 c where
  A w := w.elim0
  after w _ := w.elim0
  Φ t := match t with
    | ⟨0, _⟩ => iprop((G' m c ∗ levAts L lv ∗ Pipeline.launchCred oS0 c
        ∗ Pipeline.unscopedRestP Pipeline.Prefetch.none cfg0.spec c (fun b => m ((c : Thread nD τ).loc b)))
        ∗ Pipeline.scopedRest cfg0.spec c)
    | ⟨_ + 1, _⟩ => iprop((unscopedSems0 c ∗ Arrays m c) ∗ owns37 c ∗ Pipeline.scopedRest cfg0.spec c)
  q _ := fullShare
  owed t := match t with
    | ⟨0, _⟩ => oS0 c
    | ⟨_ + 1, _⟩ => 0

set_option maxRecDepth 16384 in
/-- The body's obligation on device `c`. -/
theorem body_obligation (c : Dev nD) :
    Pipeline.BodyObligation (dats (F := F) m 0 c) (defs₀ (F := F)) 𝒱₀ () Set.univ := fun t => by
  rw [fin_N0 t]
  have hb : defs₀ (F := F) .tc cfg0.body (cfg0.bodyArgs t0_0 (cfg0.slots t0_0)) = .op .deviceId cleanP := body_eq t0_0
  rw [hb, wp_deviceId]
  have hE : ∀ Φ : Fin cfg0.W → sProp 𝕄, (iprop(emp) : sProp 𝕄) ⊢ bigSep Finset.univ Φ := fun Φ => by
    rw [show (Finset.univ : Finset (Fin cfg0.W)) = ∅ from rfl, bigSep_empty]
    exact BI.Entails.refl _
  show iprop(((G' m c ∗ levAts L lv ∗ Pipeline.launchCred oS0 c
        ∗ Pipeline.unscopedRestP Pipeline.Prefetch.none cfg0.spec c (fun b => m ((c : Thread nD τ).loc b)))
        ∗ Pipeline.scopedRest cfg0.spec c) ∗ Pipeline.owesWithin c (oS0 c) ((dats m 0 c).bound () t0_0.castSucc) ∗ _) ⊢ WP c (cleanP c) fun _ =>
      iprop(((unscopedSems0 c ∗ Arrays m c) ∗ owns37 c ∗ Pipeline.scopedRest cfg0.spec c)
        ∗ Pipeline.owesWithin c 0 ((dats m 0 c).bound () t0_0.succ) ∗ _)
  unfold Pipeline.owesWithin G'
  iintro ⟨⟨⟨⟨%K, #HR, Hm⟩, #Hl, Hc, Hu⟩, Hs⟩, ⟨%W, -, Ho⟩, -⟩
  iapply (body_step m K c)
  isplitr; · isplitr <;> iassumption
  isplitl [Hm Hc Hu Hs Ho]
  · iapply (pre_intro m c)
    isplitl [Ho]; · unfold ow; iexists W; iexact Ho
    unfold held
    isplitl [Hm]; · iexact Hm
    isplitl [Hc]; · iexact Hc
    isplitl [Hs]; · iexact Hs
    iexact Hu
  iintro H
  ihave H := (exit_step m c) $$ H
  icases H with ⟨How, H⟩
  ihave How := (Entails.of_eq (show ow (F := F) c 0 = iprop(∃ W, owes (c : Thread nD τ) 0 W) from by unfold ow; rfl)) $$ How
  icases How with ⟨%W', How⟩
  isplitl [H]; · iexact H
  isplitl [How]
  · iexists W'
    isplitr; · ipureintro; exact fun _ _ => Or.inl trivial
    iexact How
  iapply hE
  iempintro

theorem enter_step (c : Dev nD) :
    iprop((G' m c ∗ levAts L lv ∗ Pipeline.launchCred oS0 c
        ∗ Pipeline.unscopedRestP Pipeline.Prefetch.none cfg0.spec c (fun b => m ((c : Thread nD τ).loc b)))
      ∗ Pipeline.prefHeld Pipeline.Prefetch.none c (fun _ => fullShare.right) (fun k => k.elim0) ∗ Pipeline.scopedRest cfg0.spec c)
    ⊢ (dats m 0 c).Φ 0 := by
  show _ ⊢ iprop((G' m c ∗ levAts L lv ∗ Pipeline.launchCred oS0 c
        ∗ Pipeline.unscopedRestP Pipeline.Prefetch.none cfg0.spec c (fun b => m ((c : Thread nD τ).loc b)))
      ∗ Pipeline.scopedRest cfg0.spec c)
  iintro ⟨Hx, -, Hs⟩
  isplitl [Hx]; · iexact Hx
  iexact Hs

theorem ownSemFacts : Pipeline.OwnSemFacts cfg0.spec osem where
  isScoped := by decide
  inj := fun a b h => by injection h
  disj := fun _ w => w.elim0

/-- What the final memory holds on device `c`: the arguments as they were, the result. -/
def End (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = out m c)
  ∧ ∀ sm : SemLoc sig, sm.isScoped .tc = false → s.sem ((c.tc : Thread nD τ), sm) = 0

theorem end_read (c : Dev nD) (s' : Phys nD τ sig (Elt F)) :
    iprop((unscopedSems0 c ∗ Arrays m c) ∗ emp ∗ SI s') ⊢ |={Set.univ}=> iprop(⌜End m c s'.mem⌝ ∗ (SI s' : sProp 𝕄)) := by
  unfold Arrays
  iintro ⟨⟨Hu, Hq, Hk, Hv, Ho⟩, -, HSI⟩
  icombine HSI Hq gives %hq
  icombine HSI Hk gives %hk
  icombine HSI Hv gives %hv
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hq, Buf.eq_of_forall_mem_univ hk, Buf.eq_of_forall_mem_univ hv, Buf.eq_of_forall_mem_univ ho⟩, hs⟩
  iexact HSI

set_option maxRecDepth 8000 in
/-- The run of the whole program, for any float values: it ends with the arguments as they were, each device's result
    written, and every semaphore at zero. -/
theorem run_main : θ_run defs (onTc (τ := τ) (main (F := F))) ⟨m, fun _ => 0, ρ⟩ (fun r => (∀ c : Dev nD, End m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := oS0) (howed₀ := fun _ => rfl) (howedN := fun _ => rfl)
    (L := L) (lv := lv) (hL := L_of_ne)
    (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := setup m)
    (hA := fun _ w => w.elim0) (hpf := fun _ k => k.elim0)
    (X := fun c => iprop(G' m c ∗ levAts L lv ∗ Pipeline.launchCred oS0 c
        ∗ Pipeline.unscopedRestP Pipeline.Prefetch.none cfg0.spec c (fun b => m ((c : Thread nD τ).loc b))))
    (Y := fun c => iprop(unscopedSems0 c ∗ Arrays m c)) (Z := fun _ => iprop(emp))
    (hX := fun c => by
      iintro ⟨Hu, Hl, Hc, -, HG⟩
      imodintro
      isplitl
      · isplitl [HG]; · iexact HG
        isplitl [Hl]; · iexact Hl
        isplitl [Hc]; · iexact Hc
        iexact Hu
      · iempintro)
    (hin := fun c => enter_step m c)
    (hout := fun c => by exact BI.Entails.refl _)
    (QY := End m)
    (hY := end_read m)
    (hQ := fun s h hs => ⟨fun c => (h c).2.2, sem_eq_zero hs fun c => ((h c).2.2).2⟩)

end Cert.KernelIdeal
-- ==== Proof.Frames.lean ====
module

public import proofs.«01_k».proof.Defs
public import proofs.«01_k».proof.Proof.Gen.Kernel
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import Idealize.ShloMosaic.Lib.Quiescent

@[expose] public section

noncomputable section

namespace Cert.Proof

open Idealize.ShloMosaic Idealize.SL.Sem

/-- What each device's run keeps, in the order the claims list it. -/
theorem kept {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run Cert.KernelIdeal.defs _ _).mono
    (fun _ h => ⟨fun c => ⟨(h.1 c).1.1, (h.1 c).1.2.1, (h.1 c).1.2.2.1⟩, h.2⟩)
    (Cert.KernelIdeal.run_main (F := F) m ρ)

theorem frame_kernel : Cert.quiescent_Kernel := fun m ρ _ => kept (F := Bits) m ρ

theorem frame_ideal : Cert.quiescent_KernelIdeal := fun m ρ _ => kept (F := Ideal) m ρ

theorem frame_ideal_finite : Cert.quiescent_KernelIdeal_pre_finite_KernelIdeal := fun m ρ _ => kept (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_finite : Cert.quiescent_ReferenceIdeal_pre_finite_ReferenceIdeal :=
  fun m ρ _ => frame_reference m ρ trivial

end Cert.Proof

end
-- ==== Proof.Softmax.lean ====
module

public import Idealize.ShloMosaic.Lib.Pointwise
public import Idealize.ShloMosaic.PureOps.Ideal.Laws

@[expose] public section

noncomputable section

/-! Softmax-weighted sums over the extended reals: of finite scores, the maximum that is subtracted before the
    exponentials cancels, and the weights may be divided by their sum before or after the values are added up. The
    values are any extended reals. -/

namespace Cert.Softmax

open Idealize.ShloMosaic

/-- The number each score is multiplied by. -/
theorem ofBits_eighth : Ideal.ofBits .f32 0x3E000000#32 = ((1 / 8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- A nonnegative real number multiplies a sum term by term. -/
theorem sum_mul {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (by exact_mod_cast ha) (EReal.coe_ne_top a), ih]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem exp_coe (r : ℝ) : Ideal.exp (r : EReal) = (Real.exp r : EReal) := rfl

theorem div_coe (x : EReal) (a : ℝ) (ha : 0 < a) : Ideal.div x (a : EReal) = x * ((a⁻¹ : ℝ) : EReal) := by
  unfold Ideal.div
  rw [if_neg (by exact_mod_cast ha.ne'), EReal.coe_inv]

/-- Products of finite extended reals, and their sums, are finite. -/
theorem mul_finite {x y : EReal} (hx : ∃ a : ℝ, x = a) (hy : ∃ b : ℝ, y = b) : ∃ c : ℝ, x * y = c := by
  obtain ⟨a, rfl⟩ := hx
  obtain ⟨b, rfl⟩ := hy
  exact ⟨a * b, by rw [EReal.coe_mul]⟩

theorem sum_finite {ι : Type} (s : Finset ι) (f : ι → EReal) (hf : ∀ i, ∃ a : ℝ, f i = a) : ∃ c : ℝ, ∑ i ∈ s, f i = c := by
  choose g hg using hf
  exact ⟨∑ i ∈ s, g i, by rw [coe_sum]; exact Finset.sum_congr rfl fun i _ => hg i⟩

/-- The maximum of finitely many finite scores, at least one, is finite. -/
theorem max_finite {ι : Type} [Fintype ι] [Nonempty ι] (s : ι → ℝ) :
    ∃ μ : ℝ, Finset.fold max (⊥ : EReal) (fun x => (s x : EReal)) Finset.univ = μ := by
  have hlo : (⊥ : EReal) < Finset.fold max (⊥ : EReal) (fun x => (s x : EReal)) Finset.univ := by
    rw [Finset.lt_fold_max]
    exact .inr ⟨Classical.arbitrary ι, Finset.mem_univ _, EReal.bot_lt_coe _⟩
  have hhi : Finset.fold max (⊥ : EReal) (fun x => (s x : EReal)) Finset.univ < ⊤ := by
    rw [Finset.fold_max_lt]
    exact ⟨bot_lt_top, fun x _ => EReal.coe_lt_top _⟩
  exact ⟨_, (EReal.coe_toReal hhi.ne hlo.ne').symm⟩

/-- Weights normalised after a common number is subtracted from the scores, against weights that are not, the quotient
    taken of the two sums. -/
theorem shift {ι : Type} [Fintype ι] [Nonempty ι] (s : ι → ℝ) (μ : ℝ) (v : ι → EReal) :
    ∑ x, v x * Ideal.div (Ideal.exp ((s x : EReal) - (μ : EReal))) (∑ y, Ideal.exp ((s y : EReal) - (μ : EReal)))
      = Ideal.div (∑ x, Ideal.exp (s x : EReal) * v x) (∑ x, Ideal.exp (s x : EReal)) := by
  have hsub : ∀ x, Ideal.exp ((s x : EReal) - (μ : EReal)) = ((Real.exp (s x - μ) : ℝ) : EReal) := fun x => by
    rw [← EReal.coe_sub, exp_coe]
  have hL : 0 < ∑ y, Real.exp (s y) := Finset.sum_pos (fun y _ => Real.exp_pos _) Finset.univ_nonempty
  have hL' : 0 < ∑ y, Real.exp (s y - μ) := Finset.sum_pos (fun y _ => Real.exp_pos _) Finset.univ_nonempty
  have key : ∀ x, Real.exp (s x - μ) * (∑ y, Real.exp (s y - μ))⁻¹ = Real.exp (s x) * (∑ y, Real.exp (s y))⁻¹ := fun x => by
    have e : ∑ y, Real.exp (s y - μ) = (∑ y, Real.exp (s y)) * (Real.exp μ)⁻¹ := by
      rw [Finset.sum_mul]
      exact Finset.sum_congr rfl fun y _ => by rw [Real.exp_sub, div_eq_mul_inv]
    rw [e, Real.exp_sub]
    have := (Real.exp_pos μ).ne'
    have := hL.ne'
    field_simp
  simp only [hsub, exp_coe, ← coe_sum]
  rw [div_coe _ _ hL, sum_mul _ _ _ (inv_nonneg.mpr hL.le)]
  refine Finset.sum_congr rfl fun x _ => ?_
  rw [div_coe _ _ hL', ← EReal.coe_mul, key, EReal.coe_mul, ← mul_assoc, mul_comm (v x)]

/-- The same with the scores extended reals known finite, and the number subtracted their maximum. -/
theorem normalised {ι : Type} [Fintype ι] [Nonempty ι] (s : ι → EReal) (hs : ∀ x, ∃ a : ℝ, s x = a) (v : ι → EReal) :
    ∑ x, v x * Ideal.div (Ideal.exp (s x - Finset.fold max ⊥ s Finset.univ))
        (∑ y, Ideal.exp (s y - Finset.fold max ⊥ s Finset.univ))
      = Ideal.div (∑ x, Ideal.exp (s x) * v x) (∑ x, Ideal.exp (s x)) := by
  choose r hr using hs
  obtain rfl : s = fun x => (r x : EReal) := funext hr
  obtain ⟨μ, hμ⟩ := max_finite r
  rw [hμ]
  exact shift r μ v

/-- A sum over all positions is the sum over the half `y` and the sum over the other. -/
theorem halves (f : Fin 512 → EReal) (y : Nat) (hy : y < 2) :
    ∑ x, f x = (∑ k : Fin 256, f ⟨256 * y + k.val, by omega⟩) + ∑ k : Fin 256, f ⟨256 * (1 - y) + k.val, by omega⟩ := by
  have h : ∑ x, f x = (∑ k : Fin 256, f (Fin.castAdd 256 k)) + ∑ k : Fin 256, f (Fin.natAdd 256 k) :=
    Fin.sum_univ_add (a := 256) (b := 256) f
  rw [h]
  obtain rfl | rfl : y = 0 ∨ y = 1 := by omega
  · congr 1
  · rw [add_comm]
    congr 1

end Cert.Softmax

end
-- ==== Proof.Values.lean ====
module

public import proofs.«01_k».proof.Proof.Protocol
public import proofs.«01_k».proof.Proof.Softmax
public import Idealize.ShloMosaic.Lib.Layout

@[expose] public section

noncomputable section

/-! What a device's result holds at an index, over the extended reals: the weighted sums and the row sums of its own
    half of the keys and of the other half. -/

namespace Cert.KernelIdeal
open Cert.KernelIdeal.Gen
open Idealize.ShloMosaic Idealize.SL.Sem Idealize.ShloMosaic.TcCoe

variable (m : (ℓ : Loc nD τ sig) → Buf (Elt Ideal) ℓ)

/-- A device's coordinate on the second mesh axis, along which positions are cut. -/
def yc (c : Dev nD) : Nat := c.val / 2 % 2

theorem yc_lt (c : Dev nD) : yc c < 2 := Nat.mod_lt _ (by decide)

/-- What slot 1 receives comes from a device of the other half. -/
theorem yc_src (c : Dev nD) (b : Bool) : yc (src c b) = 1 - yc c := by
  revert c b; decide

/-- Column `64 n + t`, of head `n`. -/
def col (n : Fin 16) (t : Fin 64) : Fin 512 := ⟨64 * (n.val % 8) + t.val, by omega⟩

/-- The batch entry of head `n`. -/
def bt (n : Fin 16) : Fin 2 := ⟨n.val / 8, by omega⟩

theorem rQ_at (n : Fin 16) (r : Fin 256) (t : Fin 64) : (rQ n).emb (ix3 0 r t) = ix3 (bt n) r (col n t) := by
  funext a
  refine Fin.ext ?_
  match a with
  | ⟨0, _⟩ => show n.val / 8 + 1 * 0 = n.val / 8; omega
  | ⟨1, _⟩ => show 0 + 1 * r.val = r.val; omega
  | ⟨2, _⟩ => show 64 * (n.val % 8) + 1 * t.val = 64 * (n.val % 8) + t.val; omega

theorem rKV_at (s : Fin 2) (n : Fin 16) (r : Fin 256) (t : Fin 64) :
    (rKV s n).emb (ix4 0 0 r t) = ix4 s (bt n) r (col n t) := by
  funext a
  refine Fin.ext ?_
  match a with
  | ⟨0, _⟩ => show s.val + 1 * 0 = s.val; omega
  | ⟨1, _⟩ => show n.val / 8 + 1 * 0 = n.val / 8; omega
  | ⟨2, _⟩ => show 0 + 1 * r.val = r.val; omega
  | ⟨3, _⟩ => show 64 * (n.val % 8) + 1 * t.val = 64 * (n.val % 8) + t.val; omega

theorem slot0_at (s : Fin 2) (b : Fin 2) (r : Fin 256) (l : Fin 512) : slot0 (ix4 s b r l) = ix4 0 b r l := by
  funext a
  match a with
  | ⟨0, _⟩ => rfl
  | ⟨1, _⟩ => rfl
  | ⟨2, _⟩ => rfl
  | ⟨3, _⟩ => rfl

/-- An argument array of keys or values, by name. -/
def arg (b : Bool) (c : Dev nD) : S2x256x512.Idx → EReal := match b with
  | false => argK m c
  | true => argV m c

theorem own_at (b : Bool) (c : Dev nD) (s : Fin 2) (e : Fin 2) (r : Fin 256) (l : Fin 512) :
    own m b c (ix4 s e r l) = arg m b c (ix3 e r l) := by
  cases b
  · show k0_pay1 (argK m c) (slot0 (ix4 s e r l)) = argK m c (ix3 e r l)
    rw [slot0_at]
    pointwise [k0_pay1]
  · show k0_pay2 (argV m c) (slot0 (ix4 s e r l)) = argV m c (ix3 e r l)
    rw [slot0_at]
    pointwise [k0_pay2]

/-- The device whose half slot `s` holds. -/
def halfOf (c : Dev nD) (b : Bool) (s : Fin 2) : Dev nD := if s.val = 0 then c else src c b

theorem two_at (b : Bool) (c : Dev nD) (s : Fin 2) (e : Fin 2) (r : Fin 256) (l : Fin 512) :
    two m c b (ix4 s e r l) = arg m b (halfOf c b s) (ix3 e r l) := by
  unfold two halfOf
  show (if s.val = 0 then own m b c (ix4 s e r l) else own m b (src c b) (ix4 s e r l)) = _
  rw [own_at, own_at]
  split <;> rfl

theorem hk_at (c : Dev nD) (s : Fin 2) (n : Fin 16) (r : Fin 256) (t : Fin 64) :
    hk m c s n (ix4 0 0 r t) = argK m (halfOf c false s) (ix3 (bt n) r (col n t)) := by
  unfold hk
  rw [rKV_at, two_at]
  rfl

theorem hv_at (c : Dev nD) (s : Fin 2) (n : Fin 16) (r : Fin 256) (t : Fin 64) :
    hv m c s n (ix4 0 0 r t) = argV m (halfOf c true s) (ix3 (bt n) r (col n t)) := by
  unfold hv
  rw [rKV_at, two_at]
  rfl

theorem hq_at (c : Dev nD) (n : Fin 16) (r : Fin 256) (t : Fin 64) :
    hq m c n (ix3 0 r t) = argQ m c (ix3 (bt n) r (col n t)) * Ideal.ofBits .f32 0x3E000000#32 := by
  unfold hq qs
  rw [rQ_at]
  pointwise [k0_pay4, k0_pay3]

/-- The score of row `r` of device `c`'s queries against row `k` of slot `s`'s keys. -/
def score (c : Dev nD) (s : Fin 2) (n : Fin 16) (r k : Fin 256) : EReal :=
  ∑ t : Fin 64, argQ m c (ix3 (bt n) r (col n t)) * Ideal.ofBits .f32 0x3E000000#32
    * argK m (halfOf c false s) (ix3 (bt n) k (col n t))

theorem first_sum (q : Vec Ideal S1x256x64 .bf16) (kk : Vec Ideal S1x1x256x64 .bf16) (r : Fin 256) (z t : Fin 1) :
    k0_pay8 (F := Ideal) q kk (ix3 z r t) = ∑ x, Ideal.exp (∑ y, q (ix3 0 r y) * kk (ix4 0 0 x y)) := by
  pointwise [k0_pay8, k0_pay6, k0_pay5]

theorem first_weighted (q : Vec Ideal S1x256x64 .bf16) (kk v : Vec Ideal S1x1x256x64 .bf16) (r : Fin 256) (z : Fin 1)
    (t : Fin 64) : k0_pay7 (F := Ideal) q kk v (ix3 z r t)
      = ∑ x, Ideal.exp (∑ y, q (ix3 0 r y) * kk (ix4 0 0 x y)) * v (ix4 0 0 x t) := by
  pointwise [k0_pay7, k0_pay6]

theorem quotient (q : Vec Ideal S1x256x64 .bf16) (kk v : Vec Ideal S1x1x256x64 .bf16) (l : Vec Ideal S1x256x1 .f32)
    (o : Vec Ideal S1x256x64 .f32) (r : Fin 256) (t : Fin 64) (z : Fin 1) :
    outPay (F := Ideal) q kk v l o (ix3 z r t)
      = Ideal.div (o (ix3 0 r t) + ∑ x, Ideal.exp (∑ y, q (ix3 0 r y) * kk (ix4 0 0 x y)) * v (ix4 0 0 x t))
          (l (ix3 0 r 0) + ∑ x, Ideal.exp (∑ y, q (ix3 0 r y) * kk (ix4 0 0 x y))) := by
  pointwise [outPay, k0_pay78, k0_pay77, k0_pay76, k0_pay75, k0_pay5]

theorem out_head (c : Dev nD) (n : Fin 16) (r : Fin 256) (t : Fin 64) :
    outPay (hq m c n) (hk m c 1 n) (hv m c 1 n) (k0_pay8 (hq m c n) (hk m c 0 n)) (k0_pay7 (hq m c n) (hk m c 0 n) (hv m c 0 n))
        (ix3 0 r t)
      = Ideal.div
          ((∑ k, Ideal.exp (score m c 0 n r k) * argV m c (ix3 (bt n) k (col n t)))
            + ∑ k, Ideal.exp (score m c 1 n r k) * argV m (src c true) (ix3 (bt n) k (col n t)))
          ((∑ k, Ideal.exp (score m c 0 n r k)) + ∑ k, Ideal.exp (score m c 1 n r k)) := by
  rw [quotient, first_weighted, first_sum]
  simp only [hq_at, hk_at, hv_at]
  rfl

theorem out_at (c : Dev nD) (b : Fin 2) (r : Fin 256) (l : Fin 512) :
    out m c (ix3 b r l)
      = Ideal.div
          ((∑ k, Ideal.exp (score m c 0 (hd (ix3 b r l)) r k) * argV m c (ix3 b k l))
            + ∑ k, Ideal.exp (score m c 1 (hd (ix3 b r l)) r k) * argV m (src c true) (ix3 b k l))
          ((∑ k, Ideal.exp (score m c 0 (hd (ix3 b r l)) r k)) + ∑ k, Ideal.exp (score m c 1 (hd (ix3 b r l)) r k)) := by
  have hl : lc (ix3 b r l) = ix3 0 r ⟨l.val % 64, Nat.mod_lt _ (by decide)⟩ := by
    funext a
    match a with
    | ⟨0, _⟩ => rfl
    | ⟨1, _⟩ => rfl
    | ⟨2, _⟩ => rfl
  have hv : (hd (ix3 b r l)).val = 8 * b.val + l.val / 64 := rfl
  have hb : bt (hd (ix3 b r l)) = b := Fin.ext (by show (hd (ix3 b r l)).val / 8 = b.val; omega)
  have hc : col (hd (ix3 b r l)) ⟨l.val % 64, Nat.mod_lt _ (by decide)⟩ = l :=
    Fin.ext (by show 64 * ((hd (ix3 b r l)).val % 8) + l.val % 64 = l.val; omega)
  unfold out
  rw [hl, out_head, hb, hc]

/-- A device's block number along each axis: its second mesh coordinate along positions. -/
theorem block_no (c : Dev nD) : ∀ b : Fin 3, Layout.meshLin [2, 2, 2] c.val ((![[], [1], []] : Fin 3 → List Nat) b)
    = if b.val = 1 then yc c else 0 := by
  revert c; decide

/-- An element of a device's block of a whole array. -/
theorem block_at (c : Dev nD) (w : (⟨3, ![2, 512, 512]⟩ : Shape).Idx → EReal) (b : Fin 2) (r : Fin 256) (l : Fin 512) :
    (Layout.blockN ⟨3, ![2, 256, 512]⟩ ⟨3, ![2, 512, 512]⟩ (Layout.meshBlock [2, 2, 2] ![[], [1], []] c) w) (ix3 b r l)
      = w (ix3 b ⟨256 * yc c + r.val, by have := yc_lt c; omega⟩ l) := by
  rw [Layout.blockN_apply]
  refine congrArg w (funext fun a => Fin.ext ?_)
  rw [Layout.TilesN.idx_val, Layout.meshBlock_val]
  have e0 : Layout.meshLin [2, 2, 2] c.val [] = 0 := block_no c 0
  have e1 : Layout.meshLin [2, 2, 2] c.val [1] = yc c := block_no c 1
  match a with
  | ⟨0, _⟩ => show Layout.meshLin [2, 2, 2] c.val [] * 2 + b.val = b.val; omega
  | ⟨1, _⟩ => show Layout.meshLin [2, 2, 2] c.val [1] * 256 + r.val = 256 * yc c + r.val; omega
  | ⟨2, _⟩ => show Layout.meshLin [2, 2, 2] c.val [] * 512 + l.val = l.val; omega

end Cert.KernelIdeal

end
-- ==== Proof.Ref.lean ====
module

public import Idealize.ShloMosaic.Lib.Pointwise
public import proofs.«01_k».proof.Proof.Gen.ReferenceIdeal.Run
public import proofs.«01_k».proof.Proof.Softmax

@[expose] public section

noncomputable section

/-! What the reference's result holds at an index, over the extended reals. -/

namespace Cert.ReferenceIdeal
open Cert.ReferenceIdeal.Gen
open Idealize.ShloMosaic Idealize.SL.Sem

variable (Q K V : FVec Ideal S2x512x512 .f32)

/-- The reference's scaled scores. -/
def scores : FVec Ideal S2x8x512x512 .f32 :=
  mulf (Host.dotGeneral dot_S2x512x8x64_S2x512x8x64_S2x8x512x512_3_3_1_1_02_02 none (shapeCast S2x512x8x64 Q shapeCasts_S2x512x512_S2x512x8x64) (shapeCast S2x512x8x64 K shapeCasts_S2x512x512_S2x512x8x64)) (broadcastInDim S2x8x512x512 ![] bcast_S_S2x8x512x512 (constant S_ .f32 0x3E000000#32))

/-- The exponentials of the scores, less each row's maximum. -/
def weights : FVec Ideal S2x8x512x512 .f32 :=
  Host.exp (subf (scores Q K)
    (broadcastInDim S2x8x512x512 ![0, 1, 2, 3] bcast_S2x8x512x1_S2x8x512x512_0_1_2_3 (broadcastInDim S2x8x512x1 ![0, 1, 2] bcast_S2x8x512_S2x8x512x1_0_1_2 (Host.reduce FloatOps.maximumf (scores Q K) (constant S_ .f32 0xFF800000#32) reducesTo_S2x8x512x512_S2x8x512_d3 h_S_))))

/-- The reference's result. -/
def result : FVec Ideal S2x512x512 .f32 :=
  shapeCast S2x512x512 (transpose S2x512x8x64 [0, 3, 1, 2] (Host.dotGeneral dot_S2x512x8x64_S2x8x512x512_S2x8x64x512_1_3_3_2_02_01 none (shapeCast S2x512x8x64 V shapeCasts_S2x512x512_S2x512x8x64) (Host.divf (weights Q K) (broadcastInDim S2x8x512x512 ![0, 1, 2, 3] bcast_S2x8x512x1_S2x8x512x512_0_1_2_3 (broadcastInDim S2x8x512x1 ![0, 1, 2] bcast_S2x8x512_S2x8x512x1_0_1_2 (Host.reduceAdd (weights Q K) (constant S_ .f32 0x00000000#32) reducesTo_S2x8x512x512_S2x8x512_d3 h_S_))))) transposes_S2x8x64x512_S2x512x8x64_0_3_1_2) shapeCasts_S2x512x8x64_S2x512x512

/-- The score of position `p` against position `x`, in the head of column `l`. -/
def score (b : Fin 2) (p : Fin 512) (l : Fin 512) (x : Fin 512) : EReal :=
  (∑ t : Fin 64, Q (ix3 b p ⟨l.val / 64 * 64 + t.val, by omega⟩) * K (ix3 b x ⟨l.val / 64 * 64 + t.val, by omega⟩))
    * Ideal.ofBits .f32 0x3E000000#32

theorem result_at (b : Fin 2) (p l : Fin 512) :
    result Q K V (ix3 b p l)
      = ∑ x, V (ix3 b x l) * Ideal.div (Ideal.exp (score Q K b p l x - Finset.fold max ⊥ (score Q K b p l) Finset.univ))
          (∑ y, Ideal.exp (score Q K b p l y - Finset.fold max ⊥ (score Q K b p l) Finset.univ)) := by
  rw [← Cert.Softmax.ofBits_bot]
  pointwise [result, weights, scores]
  rfl

/-- With finite scores the maximum cancels, and the sum may be divided at the end. -/
theorem result_eq (b : Fin 2) (p l : Fin 512) (hs : ∀ x, ∃ a : ℝ, score Q K b p l x = a) :
    result Q K V (ix3 b p l)
      = Ideal.div (∑ x, Ideal.exp (score Q K b p l x) * V (ix3 b x l)) (∑ x, Ideal.exp (score Q K b p l x)) := by
  rw [result_at]
  exact Cert.Softmax.normalised (score Q K b p l) hs fun x => V (ix3 b x l)

end Cert.ReferenceIdeal

end
-- ==== Proof.Algebraic.lean ====
module

public import proofs.«01_k».proof.Defs
public import proofs.«01_k».proof.Proof.Gen.Pre_finite_KernelIdeal
public import proofs.«01_k».proof.Proof.Launch
public import proofs.«01_k».proof.Proof.Values
public import proofs.«01_k».proof.Proof.Ref
public import Idealize.ShloMosaic.Lib.ReduceAll
public import Idealize.ShloMosaic.Lib.Affine

@[expose] public section

noncomputable section

/-! The value claim: a device's result is its block of the reference's. -/

namespace Cert.Proof

open Idealize.ShloMosaic Idealize.SL.Sem Idealize.ShloMosaic.TcCoe
open Cert.KernelIdeal (argQ argK argV yc yc_lt yc_src src out out_at block_at hd)

/-- An extended real whose absolute value is below `⊤` is a real number. -/
theorem real_of_abs_lt {x : EReal} (h : FloatOps.cmpf (F := Ideal) (φ := .f32) .olt (FloatOps.absf (F := Ideal) (φ := .f32) x)
    (Ideal.ofBits .f32 0x7F800000#32) = 1#1) : ∃ a : ℝ, x = a := by
  rw [Cert.Softmax.ofBits_top] at h
  induction x using EReal.rec with
  | bot => exact absurd h (by simp [Ideal.cmpf_def, Ideal.absf_def, Ideal.cmp])
  | coe a => exact ⟨a, rfl⟩
  | top => exact absurd h (by simp [Ideal.cmpf_def, Ideal.absf_def, Ideal.cmp])

instance : Subsingleton Cert.Pre_finite_KernelIdeal.S_.Idx := ⟨fun _ _ => funext fun a => a.elim0⟩

/-- What the precondition says of the queries and the keys. -/
theorem finite_entries (q k v : FVec Ideal Cert.Pre_finite_KernelIdeal.S2x256x512 .f32)
    (h : Cert.Pre_finite_KernelIdeal.fn (F := Ideal) q k v = fun _ => 1#1) (i : Cert.Pre_finite_KernelIdeal.S2x256x512.Idx) :
    (∃ a : ℝ, q i = a) ∧ ∃ a : ℝ, k i = a := by
  have h0 := congrFun h (fun a => a.elim0)
  dsimp only [Cert.Pre_finite_KernelIdeal.fn] at h0
  obtain ⟨hq, hk⟩ := IntOp.andi_eq_one.1 h0
  exact ⟨real_of_abs_lt (Host.reduce_andi_all _ _ _ _ _ hq i), real_of_abs_lt (Host.reduce_andi_all _ _ _ _ _ hk i)⟩

section Value

variable (m : (ℓ : Loc Cert.KernelIdeal.nD Cert.KernelIdeal.τ Cert.KernelIdeal.sig) → Buf (Elt Ideal) ℓ)
  (Q K V : FVec Ideal Cert.ReferenceIdeal.S2x512x512 .f32)

/-- Position `r` of half `y`. -/
def pos (y : Nat) (hy : y < 2) (r : Fin 256) : Fin 512 := ⟨256 * y + r.val, by omega⟩

/-- A score of the kernel is the reference's: the factor goes over the sum. -/
theorem score_eq (hQ : ∀ c b r l, argQ m c (ix3 b r l) = Q (ix3 b (pos (yc c) (yc_lt c) r) l))
    (hK : ∀ c b r l, argK m c (ix3 b r l) = K (ix3 b (pos (yc c) (yc_lt c) r) l))
    (c : Dev Cert.KernelIdeal.nD) (s : Fin 2) (b : Fin 2) (r k : Fin 256) (l : Fin 512) :
    Cert.KernelIdeal.score m c s (hd (ix3 b r l)) r k
      = Cert.ReferenceIdeal.score Q K b (pos (yc c) (yc_lt c) r) l
          (pos (yc (Cert.KernelIdeal.halfOf c false s)) (yc_lt _) k) := by
  have hv : (hd (ix3 b r l)).val = 8 * b.val + l.val / 64 := rfl
  have hb : Cert.KernelIdeal.bt (hd (ix3 b r l)) = b := Fin.ext (by show (hd (ix3 b r l)).val / 8 = b.val; omega)
  have hc : ∀ t : Fin 64, Cert.KernelIdeal.col (hd (ix3 b r l)) t = ⟨l.val / 64 * 64 + t.val, by omega⟩ := fun t =>
    Fin.ext (by show 64 * ((hd (ix3 b r l)).val % 8) + t.val = l.val / 64 * 64 + t.val; omega)
  unfold Cert.KernelIdeal.score Cert.ReferenceIdeal.score
  rw [Cert.Softmax.ofBits_eighth, Cert.Softmax.sum_mul _ _ _ (by norm_num)]
  refine Finset.sum_congr rfl fun t _ => ?_
  rw [hb, hc, hQ, hK, mul_right_comm]

theorem out_eq (hQ : ∀ c b r l, argQ m c (ix3 b r l) = Q (ix3 b (pos (yc c) (yc_lt c) r) l))
    (hK : ∀ c b r l, argK m c (ix3 b r l) = K (ix3 b (pos (yc c) (yc_lt c) r) l))
    (hV : ∀ c b r l, argV m c (ix3 b r l) = V (ix3 b (pos (yc c) (yc_lt c) r) l))
    (fQ : ∀ b p l, ∃ a : ℝ, Q (ix3 b p l) = a) (fK : ∀ b p l, ∃ a : ℝ, K (ix3 b p l) = a)
    (c : Dev Cert.KernelIdeal.nD) (b : Fin 2) (r : Fin 256) (l : Fin 512) :
    out m c (ix3 b r l) = Cert.ReferenceIdeal.result Q K V (ix3 b (pos (yc c) (yc_lt c) r) l) := by
  have hs : ∀ x, ∃ a : ℝ, Cert.ReferenceIdeal.score Q K b (pos (yc c) (yc_lt c) r) l x = a := fun x =>
    Cert.Softmax.mul_finite (Cert.Softmax.sum_finite _ _ fun t => Cert.Softmax.mul_finite (fQ ..) (fK ..))
      ⟨_, Cert.Softmax.ofBits_eighth⟩
  rw [Cert.ReferenceIdeal.result_eq Q K V b _ l hs, out_at, Cert.Softmax.halves _ (yc c) (yc_lt c),
    Cert.Softmax.halves (fun x => Ideal.exp _) (yc c) (yc_lt c)]
  have e0 : ∀ k, Cert.KernelIdeal.score m c 0 (hd (ix3 b r l)) r k
      = Cert.ReferenceIdeal.score Q K b (pos (yc c) (yc_lt c) r) l ⟨256 * yc c + k.val, by have := yc_lt c; omega⟩ := fun k =>
    score_eq m Q K hQ hK c 0 b r k l
  have e1 : ∀ k, Cert.KernelIdeal.score m c 1 (hd (ix3 b r l)) r k
      = Cert.ReferenceIdeal.score Q K b (pos (yc c) (yc_lt c) r) l ⟨256 * (1 - yc c) + k.val, by omega⟩ := fun k => by
    rw [score_eq m Q K hQ hK c 1 b r k l]
    refine congrArg _ (Fin.ext ?_)
    show 256 * yc (src c false) + k.val = 256 * (1 - yc c) + k.val
    rw [yc_src]
  have v1 : ∀ k, argV m (src c true) (ix3 b k l) = V (ix3 b ⟨256 * (1 - yc c) + k.val, by omega⟩ l) := fun k => by
    rw [hV]
    refine congrArg (fun p => V (ix3 b p l)) (Fin.ext ?_)
    show 256 * yc (src c true) + k.val = 256 * (1 - yc c) + k.val
    rw [yc_src]
  have v0 : ∀ k, argV m c (ix3 b k l) = V (ix3 b ⟨256 * yc c + k.val, by have := yc_lt c; omega⟩ l) := fun k => hV c b k l
  simp only [e0, e1, v0, v1]

end Value

/-- A device of half `y`. -/
def devOf (p : Fin 512) : Dev Cert.KernelIdeal.nD := ⟨2 * (p.val / 256), by show _ < 8; omega⟩

theorem yc_devOf (p : Fin 512) : yc (devOf p) = p.val / 256 := by
  show 2 * (p.val / 256) / 2 % 2 = p.val / 256
  omega

theorem pos_devOf (p : Fin 512) : pos (yc (devOf p)) (yc_lt _) ⟨p.val % 256, Nat.mod_lt _ (by decide)⟩ = p :=
  Fin.ext (by show 256 * yc (devOf p) + p.val % 256 = p.val; rw [yc_devOf]; omega)

theorem algebraic : Cert.algebraic_KernelIdeal_ReferenceIdeal_pre_finite_KernelIdeal := by
  intro m g m' g' hpre hargs
  have hQ : ∀ c b r l, argQ m c (ix3 b r l)
      = m' (((0 : Dev Cert.ReferenceIdeal.nD).tc : Thread Cert.ReferenceIdeal.nD Cert.ReferenceIdeal.τ).loc Cert.ReferenceIdeal.main_arg0)
          (ix3 b (pos (yc c) (yc_lt c) r) l) := fun c b r l =>
    (congrFun (hargs c).1 (ix3 b r l)).trans (block_at c _ b r l)
  have hK : ∀ c b r l, argK m c (ix3 b r l)
      = m' (((0 : Dev Cert.ReferenceIdeal.nD).tc : Thread Cert.ReferenceIdeal.nD Cert.ReferenceIdeal.τ).loc Cert.ReferenceIdeal.main_arg1)
          (ix3 b (pos (yc c) (yc_lt c) r) l) := fun c b r l =>
    (congrFun (hargs c).2.1 (ix3 b r l)).trans (block_at c _ b r l)
  have hV : ∀ c b r l, argV m c (ix3 b r l)
      = m' (((0 : Dev Cert.ReferenceIdeal.nD).tc : Thread Cert.ReferenceIdeal.nD Cert.ReferenceIdeal.τ).loc Cert.ReferenceIdeal.main_arg2)
          (ix3 b (pos (yc c) (yc_lt c) r) l) := fun c b r l =>
    (congrFun (hargs c).2.2 (ix3 b r l)).trans (block_at c _ b r l)
  have fin := fun c i => finite_entries _ _ _ (hpre c) i
  have fQ : ∀ b p l, ∃ a : ℝ,
      m' (((0 : Dev Cert.ReferenceIdeal.nD).tc : Thread Cert.ReferenceIdeal.nD Cert.ReferenceIdeal.τ).loc Cert.ReferenceIdeal.main_arg0)
        (ix3 b p l) = (a : EReal) := fun b p l => by
    have h := (fin (devOf p) (ix3 b ⟨p.val % 256, Nat.mod_lt _ (by decide)⟩ l)).1
    have e := hQ (devOf p) b ⟨p.val % 256, Nat.mod_lt _ (by decide)⟩ l
    rw [pos_devOf] at e
    exact e ▸ h
  have fK : ∀ b p l, ∃ a : ℝ,
      m' (((0 : Dev Cert.ReferenceIdeal.nD).tc : Thread Cert.ReferenceIdeal.nD Cert.ReferenceIdeal.τ).loc Cert.ReferenceIdeal.main_arg1)
        (ix3 b p l) = (a : EReal) := fun b p l => by
    have h := (fin (devOf p) (ix3 b ⟨p.val % 256, Nat.mod_lt _ (by decide)⟩ l)).2
    have e := hK (devOf p) b ⟨p.val % 256, Nat.mod_lt _ (by decide)⟩ l
    rw [pos_devOf] at e
    exact e ▸ h
  refine ⟨Cert.ReferenceIdeal.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ?_) (Cert.KernelIdeal.run_main (F := Ideal) m g)
    obtain ⟨⟨h0, h1, h2, hv⟩, -⟩ := h.1 c
    refine ⟨hv.trans (funext fun i => ?_), h0, h1, h2⟩
    have hi : i = ix3 (i 0) (i 1) (i 2) := by
      funext a
      match a with
      | ⟨0, _⟩ => rfl
      | ⟨1, _⟩ => rfl
      | ⟨2, _⟩ => rfl
    rw [hi]
    exact (out_eq m _ _ _ hQ hK hV fQ fK c (i 0) (i 1) (i 2)).trans (block_at c _ (i 0) (i 1) (i 2)).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_finite, frame_reference,
    frame_reference_finite, trivial, algebraic⟩

end Cert.Proof

end
